-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fragments_ok [hPre_fragments_ok : Cert.Pre_fragments_ok.Facts] (m : (ℓ : Loc Cert.KernelIdeal.nD Cert.KernelIdeal.τ Cert.KernelIdeal.sig) → Buf (Elt Ideal) ℓ) : Prop :=
  ∀ c : Dev Cert.KernelIdeal.nD,
    (Cert.Pre_fragments_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fragments_ok [hPre_fragments_ok : Cert.Pre_fragments_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fragments_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_fragments_ok [hKernelIdeal : Cert.KernelIdeal.Facts] [hPre_fragments_ok : Cert.Pre_fragments_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fragments_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_fragments_ok [hReferenceIdeal : Cert.ReferenceIdeal.Facts] [hPre_fragments_ok : Cert.Pre_fragments_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fragments_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "pairs" .f32 0x477F0000#32 ((574208952498534333 / 8796093022208 : ℝ) : EReal)
  ∧ IdealRules.named_const.Statement Cert.KernelIdeal.κ "scale" .f32 0x3AC49BA6#32 ((216172780503171 / 144115188075855872 : ℝ) : EReal)

def algebraic_KernelIdeal_ReferenceIdeal_pre_fragments_ok [hKernelIdeal : Cert.KernelIdeal.Facts] [hReferenceIdeal : Cert.ReferenceIdeal.Facts] [hPre_fragments_ok : Cert.Pre_fragments_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fragments_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_fragments_ok : Cert.Pre_fragments_ok.Facts),
    quiescent_Kernel (hKernel := hKernel)
    ∧ quiescent_KernelIdeal (hKernelIdeal := hKernelIdeal)
    ∧ quiescent_KernelIdeal_pre_fragments_ok (hKernelIdeal := hKernelIdeal) (hPre_fragments_ok := hPre_fragments_ok)
    ∧ quiescent_ReferenceIdeal (hReferenceIdeal := hReferenceIdeal)
    ∧ quiescent_ReferenceIdeal_pre_fragments_ok (hReferenceIdeal := hReferenceIdeal) (hPre_fragments_ok := hPre_fragments_ok)
    ∧ preserves_Kernel_KernelIdeal
    ∧ algebraic_KernelIdeal_ReferenceIdeal_pre_fragments_ok (hKernelIdeal := hKernelIdeal) (hReferenceIdeal := hReferenceIdeal) (hPre_fragments_ok := hPre_fragments_ok)
-- ==== Pre_fragments_ok.lean ====
abbrev S16384x512 : Shape := ⟨2, ![16384, 512]⟩
abbrev S16384x64x3 : Shape := ⟨3, ![16384, 64, 3]⟩
abbrev S16384 : Shape := ⟨1, ![16384]⟩
abbrev S512 : Shape := ⟨1, ![512]⟩
abbrev S512x512 : Shape := ⟨2, ![512, 512]⟩
abbrev S_ : Shape := ⟨0, ![]⟩
abbrev S16384x1 : Shape := ⟨2, ![16384, 1]⟩
abbrev S1x512 : Shape := ⟨2, ![1, 512]⟩
abbrev S256 : Shape := ⟨1, ![256]⟩
abbrev S256x512 : Shape := ⟨2, ![256, 512]⟩
abbrev S256x1 : Shape := ⟨2, ![256, 1]⟩

class Facts : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S512x512_S512x512_1_0 : S512x512.Transposes [1, 0] S512x512
  bcast_S_S16384x512 : S_.BroadcastsInDim S16384x512 (![] : Fin 0 → Fin S16384x512.rank)
  bcast_S_S256 : S_.BroadcastsInDim S256 (![] : Fin 0 → Fin S256.rank)
  bcast_S_S16384 : S_.BroadcastsInDim S16384 (![] : Fin 0 → Fin S16384.rank)
  bcast_S_S256x512 : S_.BroadcastsInDim S256x512 (![] : Fin 0 → Fin S256x512.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  reducesTo_S256x512_S256_d1 : S256x512.ReducesTo [1] S256
  reducesTo_S16384_S_d0 : S16384.ReducesTo [0] S_
  reducesTo_S256_S_d0 : S256.ReducesTo [0] S_
  dot_S16384x512_S512x512_S16384x512_1_0_0_1_n_n_wf : DotDims.WF S16384x512 S512x512 S16384x512 [1] [0] [0] [1] [] []
  scatter_S256_S16384x1_S16384_n_0_0_1_wf : ScatterDims.WF S256 S16384x1 S16384 [] [0] [0] 1
  scatter_S256x512_S16384x1_S16384x512_1_0_0_1_wf : ScatterDims.WF S256x512 S16384x1 S16384x512 [1] [0] [0] 1

variable [Facts]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def scatter_S256_S16384x1_S16384_n_0_0_1 : ScatterDims S256 S16384x1 S16384 where
  updateWindowDims := []
  insertedWindowDims := [0]
  scatterDimsToOperandDims := [0]
  indexVectorDim := 1
  wf := scatter_S256_S16384x1_S16384_n_0_0_1_wf
def scatter_S256x512_S16384x1_S16384x512_1_0_0_1 : ScatterDims S256x512 S16384x1 S16384x512 where
  updateWindowDims := [1]
  insertedWindowDims := [0]
  scatterDimsToOperandDims := [0]
  indexVectorDim := 1
  wf := scatter_S256x512_S16384x1_S16384x512_1_0_0_1_wf
def fn_where {F : FTy → Type} [FloatOps F] (arg0 : IVec S_ 1) (arg1 : FVec F S16384x1 .f32) (arg2 : FVec F S_ .f32) : FVec F S16384x1 .f32 :=
  let v0 : FVec F S_ .f32 := id arg2
  let v1 : FVec F S16384x1 .f32 := broadcastInDim S16384x1 ![] bcast_S_S16384x1 v0
  let v2 : FVec F S16384x1 .f32 := (fun p a b => select (broadcastInDim S16384x1 ![] bcast_S_S16384x1 p) a b) arg0 arg1 v1
  v2

def fn_var {F : FTy → Type} [FloatOps F] (arg0 : FVec F S16384x512 .f32) (arg1 : IVec S_ 32) : FVec F S16384x1 .f32 :=
  let cst : FVec F S_ .f32 := constant S_ .f32 0x00000000#32
  let v0 : FVec F S16384 .f32 := (fun x v => Host.reduceAdd x v reducesTo_S16384x512_S16384_d1 h_S_) arg0 cst
  let v1 : FVec F S16384x1 .f32 := broadcastInDim S16384x1 ![0] bcast_S16384_S16384x1_0 v0
  let cst_0 : FVec F S_ .f32 := constant S_ .f32 0x44000000#32
  let v2 : FVec F S16384x1 .f32 := broadcastInDim S16384x1 ![] bcast_S_S16384x1 cst_0
  let v3 : FVec F S16384x1 .f32 := Host.divf v1 v2
  let v4 : FVec F S16384x512 .f32 := broadcastInDim S16384x512 ![0, 1] bcast_S16384x1_S16384x512_0_1 v3
  let v5 : FVec F S16384x512 .f32 := subf arg0 v4
  let v6 : FVec F S16384x512 .f32 := mulf v5 v5
  let v7 : FVec F S_ .f32 := sitofp .f32 arg1
  let cst_1 : FVec F S_ .f32 := constant S_ .f32 0x44000000#32
  let v8 : FVec F S_ .f32 := subf cst_1 v7
  let cst_2 : FVec F S_ .f32 := constant S_ .f32 0x00000000#32
  let v9 : FVec F S16384 .f32 := (fun x v => Host.reduceAdd x v reducesTo_S16384x512_S16384_d1 h_S_) v6 cst_2
  let v10 : FVec F S16384x1 .f32 := broadcastInDim S16384x1 ![0] bcast_S16384_S16384x1_0 v9
  let v11 : FVec F S16384x1 .f32 := broadcastInDim S16384x1 ![] bcast_S_S16384x1 v8
  let v12 : FVec F S16384x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S16384x1 .f32 := fn_where (F := F) v13 v12 cst_4
  v14

def fn_clip {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := maxsi v1 arg0
  v2

def fn_clip_0 {F : FTy → Type} [FloatOps F] (arg0 : FVec F S256 .f32) (arg1 : FVec F S_ .f32) : FVec F S256 .f32 :=
  let v0 : FVec F S_ .f32 := id arg1
  let v1 : FVec F S256 .f32 := broadcastInDim S256 ![] bcast_S_S256 v0
  let v2 : FVec F S256 .f32 := maximumf v1 arg0
  v2

def fn_norm {F : FTy → Type} [FloatOps F] (arg0 : FVec F S256x512 .f32) : FVec F S256 .f32 :=
  let v0 : FVec F S256x512 .f32 := mulf arg0 arg0
  let cst : FVec F S_ .f32 := constant S_ .f32 0x00000000#32
  let v1 : FVec F S256 .f32 := (fun x v => Host.reduceAdd x v reducesTo_S256x512_S256_d1 h_S_) v0 cst
  let v2 : FVec F S256 .f32 := Host.sqrt v1
  v2

def fn_part3 {F : FTy → Type} [FloatOps F] (main_v48 : FVec F S256 .f32) (main_v51 : IVec S_ 1) (main_v53 : IVec S256 1) (main_v54 : FVec F S256 .f32) : IVec S_ 1 :=
  let main_v55 : IVec S256 1 := cmpf .oeq main_v48 main_v54
  let main_v56 : IVec S256 1 := ori main_v53 main_v55
  let main_cst_15 : FVec F S_ .f32 := constant S_ .f32 0x2B8CBCCC#32
  let main_v57 : FVec F S256 .f32 := broadcastInDim S256 ![] bcast_S_S256 main_cst_15
  let main_v58 : IVec S256 1 := cmpf .oge main_v48 main_v57
  let main_v59 : IVec S256 1 := ori main_v56 main_v58
  let main_c_16 : IVec S_ 1 := constantI S_ 1 1#1
  let main_v60 : IVec S_ 1 := (fun x v => Host.reduce IntOp.andi x v reducesTo_S256_S_d0 h_S_) main_v59 main_c_16
  let main_v61 : IVec S_ 1 := andi main_v51 main_v60
  main_v61

def fn_part2 {F : FTy → Type} [FloatOps F] (main_arg4 : IVec S16384 32) (main_v29 : FVec F S16384x512 .f32) (main_v30 : IVec S256 32) (main_v37 : IVec S16384x1 32) : IVec S_ 1 :=
  let main_c_8 : IVec S_ 32 := constantI S_ 32 1#32
  let main_v38 : IVec S16384 32 := broadcastInDim S16384 ![] bcast_S_S16384 main_c_8
  let main_v39 : IVec S256 32 := (fun x i u => Host.scatter scatter_S256_S16384x1_S16384_n_0_0_1 IntOp.addi x i u) main_v30 main_v37 main_v38
  let main_v40 : FVec F S256 .f32 := sitofp .f32 main_v39
  let main_cst_9 : FVec F S_ .f32 := constant S_ .f32 0x00000000#32
  let main_v41 : FVec F S256x512 .f32 := broadcastInDim S256x512 ![] bcast_S_S256x512 main_cst_9
  let main_v42 : IVec S16384x1 32 := broadcastInDim S16384x1 ![0] bcast_S16384_S16384x1_0 main_arg4
  let main_v43 : FVec F S256x512 .f32 := (fun x i u => Host.scatterAdd scatter_S256x512_S16384x1_S16384x512_1_0_0_1 x i u) main_v41 main_v42 main_v29
  let main_cst_10 : FVec F S_ .f32 := constant S_ .f32 0x3F800000#32
  let main_v44 : FVec F S256 .f32 := fn_clip_0 (F := F) main_v40 main_cst_10
  let main_v45 : FVec F S256x1 .f32 := broadcastInDim S256x1 ![0] bcast_S256_S256x1_0 main_v44
  let main_v46 : FVec F S256x512 .f32 := broadcastInDim S256x512 ![0, 1] bcast_S256x1_S256x512_0_1 main_v45
  let main_v47 : FVec F S256x512 .f32 := Host.divf main_v43 main_v46
  let main_v48 : FVec F S256 .f32 := fn_norm (F := F) main_v47
  let main_c_11 : IVec S_ 32 := constantI S_ 32 0#32
  let main_v49 : IVec S16384 32 := broadcastInDim S16384 ![] bcast_S_S16384 main_c_11
  let main_v50 : IVec S16384 1 := cmpi .sge main_arg4 main_v49
  let main_c_12 : IVec S_ 1 := constantI S_ 1 1#1
  let main_v51 : IVec S_ 1 := (fun x v => Host.reduce IntOp.andi x v reducesTo_S16384_S_d0 h_S_) main_v50 main_c_12
  let main_cst_13 : FVec F S_ .f32 := constant S_ .f32 0x3F800000#32
  let main_v52 : FVec F S256 .f32 := broadcastInDim S256 ![] bcast_S_S256 main_cst_13
  let main_v53 : IVec S256 1 := cmpf .ole main_v40 main_v52
  let main_cst_14 : FVec F S_ .f32 := constant S_ .f32 0x00000000#32
  let main_v54 : FVec F S256 .f32 := broadcastInDim S256 ![] bcast_S_S256 main_cst_14
  fn_part3 (F := F) main_v48 main_v51 main_v53 main_v54

def fn_part1 {F : FTy → Type} [FloatOps F] (main_arg4 : IVec S16384 32) (main_arg8 : FVec F S512 .f32) (main_v19 : FVec F S16384x512 .f32) : IVec S_ 1 :=
  let main_v20 : FVec F S1x512 .f32 := broadcastInDim S1x512 ![1] bcast_S512_S1x512_1 main_arg8
  let main_v21 : FVec F S16384x512 .f32 := broadcastInDim S16384x512 ![0, 1] bcast_S1x512_S16384x512_0_1 main_v20
  let main_v22 : FVec F S16384x512 .f32 := addf main_v19 main_v21
  let main_v23 : FVec F S16384x512 .f32 := Host.negf main_v22
  let main_v24 : FVec F S16384x512 .f32 := Host.exp main_v23
  let main_cst_2 : FVec F S_ .f32 := constant S_ .f32 0x3F800000#32
  let main_v25 : FVec F S16384x512 .f32 := broadcastInDim S16384x512 ![] bcast_S_S16384x512 main_cst_2
  let main_v26 : FVec F S16384x512 .f32 := addf main_v25 main_v24
  let main_cst_3 : FVec F S_ .f32 := constant S_ .f32 0x3F800000#32
  let main_v27 : FVec F S16384x512 .f32 := broadcastInDim S16384x512 ![] bcast_S_S16384x512 main_cst_3
  let main_v28 : FVec F S16384x512 .f32 := Host.divf main_v27 main_v26
  let main_v29 : FVec F S16384x512 .f32 := mulf main_v22 main_v28
  let main_c_4 : IVec S_ 32 := constantI S_ 32 0#32
  let main_v30 : IVec S256 32 := broadcastInDim S256 ![] bcast_S_S256 main_c_4
  let main_c_5 : IVec S_ 32 := constantI S_ 32 0#32
  let main_v31 : IVec S16384 32 := fn_clip (F := F) main_arg4 main_c_5
  let main_c_6 : IVec S_ 32 := constantI S_ 32 0#32
  let main_v32 : IVec S16384 32 := broadcastInDim S16384 ![] bcast_S_S16384 main_c_6
  let main_v33 : IVec S16384 1 := cmpi .slt main_v31 main_v32
  let main_c_7 : IVec S_ 32 := constantI S_ 32 256#32
  let main_v34 : IVec S16384 32 := broadcastInDim S16384 ![] bcast_S_S16384 main_c_7
  let main_v35 : IVec S16384 32 := addi main_v31 main_v34
  let main_v36 : IVec S16384 32 := select main_v33 main_v35 main_v31
  let main_v37 : IVec S16384x1 32 := broadcastInDim S16384x1 ![0] bcast_S16384_S16384x1_0 main_v36
  fn_part2 (F := F) main_arg4 main_v29 main_v30 main_v37

def fn {F : FTy → Type} [FloatOps F] (main_arg0 : FVec F S16384x512 .f32) (main_arg1 : FVec F S16384x512 .f32) (main_arg2 : FVec F S16384x64x3 .f32) (main_arg3 : FVec F S16384x64x3 .f32) (main_arg4 : IVec S16384 32) (main_arg5 : FVec F S512 .f32) (main_arg6 : FVec F S512 .f32) (main_arg7 : FVec F S512x512 .f32) (main_arg8 : FVec F S512 .f32) : IVec S_ 1 :=
  let main_cst : FVec F S_ .f32 := constant S_ .f32 0x00000000#32
  let main_v0 : FVec F S16384 .f32 := (fun x v => Host.reduceAdd x v reducesTo_S16384x512_S16384_d1 h_S_) main_arg0 main_cst
  let main_v1 : FVec F S16384x1 .f32 := broadcastInDim S16384x1 ![0] bcast_S16384_S16384x1_0 main_v0
  let main_cst_0 : FVec F S_ .f32 := constant S_ .f32 0x44000000#32
  let main_v2 : FVec F S16384x1 .f32 := broadcastInDim S16384x1 ![] bcast_S_S16384x1 main_cst_0
  let main_v3 : FVec F S16384x1 .f32 := Host.divf main_v1 main_v2
  let main_c : IVec S_ 32 := constantI S_ 32 0#32
  let main_v4 : FVec F S16384x1 .f32 := fn_var (F := F) main_arg0 main_c
  let main_v5 : FVec F S16384x512 .f32 := broadcastInDim S16384x512 ![0, 1] bcast_S16384x1_S16384x512_0_1 main_v3
  let main_v6 : FVec F S16384x512 .f32 := subf main_arg0 main_v5
  let main_cst_1 : FVec F S_ .f32 := constant S_ .f32 0x3727C5AC#32
  let main_v7 : FVec F S16384x1 .f32 := broadcastInDim S16384x1 ![] bcast_S_S16384x1 main_cst_1
  let main_v8 : FVec F S16384x1 .f32 := addf main_v4 main_v7
  let main_v9 : FVec F S16384x1 .f32 := Host.sqrt main_v8
  let main_v10 : FVec F S16384x512 .f32 := broadcastInDim S16384x512 ![0, 1] bcast_S16384x1_S16384x512_0_1 main_v9
  let main_v11 : FVec F S16384x512 .f32 := Host.divf main_v6 main_v10
  let main_v12 : FVec F S1x512 .f32 := broadcastInDim S1x512 ![1] bcast_S512_S1x512_1 main_arg5
  let main_v13 : FVec F S16384x512 .f32 := broadcastInDim S16384x512 ![0, 1] bcast_S1x512_S16384x512_0_1 main_v12
  let main_v14 : FVec F S16384x512 .f32 := mulf main_v11 main_v13
  let main_v15 : FVec F S1x512 .f32 := broadcastInDim S1x512 ![1] bcast_S512_S1x512_1 main_arg6
  let main_v16 : FVec F S16384x512 .f32 := broadcastInDim S16384x512 ![0, 1] bcast_S1x512_S16384x512_0_1 main_v15
  let main_v17 : FVec F S16384x512 .f32 := addf main_v14 main_v16
  let main_v18 : FVec F S512x512 .f32 := (transpose S512x512 [1, 0] · transposes_S512x512_S512x512_1_0) main_arg7
  let main_v19 : FVec F S16384x512 .f32 := (fun l r => Host.dotGeneral dot_S16384x512_S512x512_S16384x512_1_0_0_1_n_n none l r) main_v17 main_v18
  fn_part1 (F := F) main_arg4 main_arg8 main_v19
-- ==== Kernel.lean ====
abbrev S16384x512 : Shape := ⟨2, ![16384, 512]⟩
abbrev S16384x64x3 : Shape := ⟨3, ![16384, 64, 3]⟩
abbrev S16384 : Shape := ⟨1, ![16384]⟩
abbrev S512 : Shape := ⟨1, ![512]⟩
abbrev S512x512 : Shape := ⟨2, ![512, 512]⟩
abbrev S8x1x2048 : Shape := ⟨3, ![8, 1, 2048]⟩
abbrev S1x512 : Shape := ⟨2, ![1, 512]⟩
abbrev S1x1 : Shape := ⟨2, ![1, 1]⟩
abbrev S1x1x2048 : Shape := ⟨3, ![1, 1, 2048]⟩
abbrev S2048x512 : Shape := ⟨2, ![2048, 512]⟩
abbrev S256x512 : Shape := ⟨2, ![256, 512]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x256x512 : Shape := ⟨3, ![1, 256, 512]⟩
abbrev S1x1x512 : Shape := ⟨3, ![1, 1, 512]⟩
abbrev S_ : Shape := ⟨0, ![]⟩

abbrev nBuf : Space → Nat
  | .hbm => 15
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x64x3, .f32⟩
  | .hbm, ⟨3, _⟩ => ⟨S16384x64x3, .f32⟩
  | .hbm, ⟨4, _⟩ => ⟨S16384, .i32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S8x1x2048, .i32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x1, .f32⟩
  | .hbm, ⟨14, _⟩ => ⟨S_, .f32⟩
  | .local _ .vmem, ⟨0, _⟩ => ⟨S1x1x2048, .i32⟩
  | .local _ .vmem, ⟨1, _⟩ => ⟨S1x1x2048, .i32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x1, .f32⟩
  | .local _ .vmem, ⟨9, _⟩ => ⟨S256x512, .f32⟩
  | .local _ .vmem, ⟨10, _⟩ => ⟨S256x512, .f32⟩
  | .local _ .vmem, ⟨11, _⟩ => ⟨S256x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v75 : BitVec 1 := Scalar.cmpi .eq arg0 c7_i32
  let v76 : BitVec 32 := Scalar.extui v75
  let c0_i32_35 : BitVec 32 := 0#32
  let v77 : BitVec 1 := Scalar.cmpi .ne v76 c0_i32_35
  v77

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "pairs" => some ((574208952498534333 / 8796093022208 : ℝ) : EReal)
  | "scale" => some ((216172780503171 / 144115188075855872 : ℝ) : EReal)
  | _ => none
-- ==== ReferenceIdeal.lean ====
abbrev S16384x512 : Shape := ⟨2, ![16384, 512]⟩
abbrev S16384x64x3 : Shape := ⟨3, ![16384, 64, 3]⟩
abbrev S16384 : Shape := ⟨1, ![16384]⟩
abbrev S512 : Shape := ⟨1, ![512]⟩
abbrev S512x512 : Shape := ⟨2, ![512, 512]⟩
abbrev S_ : Shape := ⟨0, ![]⟩
abbrev S16384x1 : Shape := ⟨2, ![16384, 1]⟩
abbrev S1x512 : Shape := ⟨2, ![1, 512]⟩
abbrev S256 : Shape := ⟨1, ![256]⟩
abbrev S256x512 : Shape := ⟨2, ![256, 512]⟩
abbrev S256x1 : Shape := ⟨2, ![256, 1]⟩
abbrev S512x256 : Shape := ⟨2, ![512, 256]⟩
abbrev S256x256 : Shape := ⟨2, ![256, 256]⟩

abbrev nBuf : Space → Nat
  | .hbm => 225
  | .vmem => 0
  | .smem => 0
  | _ => 0

abbrev hbmTy0_0 (i : Nat) : BufTy := match i % 128 with
  | 0 => ⟨S16384x512, .f32⟩
  | 1 => ⟨S16384x512, .f32⟩
  | 2 => ⟨S16384x64x3, .f32⟩
  | 3 => ⟨S16384x64x3, .f32⟩
  | 4 => ⟨S16384, .i32⟩
  | 5 => ⟨S512, .f32⟩
  | 6 => ⟨S512, .f32⟩
  | 7 => ⟨S512x512, .f32⟩
  | 8 => ⟨S512, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .i32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S16384x512, .f32⟩
  | 23 => ⟨S16384x512, .f32⟩
  | 24 => ⟨S16384x512, .f32⟩
  | 25 => ⟨S_, .f32⟩
  | 26 => ⟨S_, .f32⟩
  | 27 => ⟨S_, .f32⟩
  | 28 => ⟨S_, .f32⟩
  | 29 => ⟨S16384, .f32⟩
  | 30 => ⟨S16384x1, .f32⟩
  | 31 => ⟨S16384x1, .f32⟩
  | 32 => ⟨S16384x1, .f32⟩
  | 33 => ⟨S_, .f32⟩
  | 34 => ⟨S_, .i1⟩
  | 35 => ⟨S_, .f32⟩
  | 36 => ⟨S_, .f32⟩
  | 37 => ⟨S16384x1, .f32⟩
  | 38 => ⟨S16384x1, .f32⟩
  | 39 => ⟨S16384x512, .f32⟩
  | 40 => ⟨S16384x512, .f32⟩
  | 41 => ⟨S_, .f32⟩
  | 42 => ⟨S16384x1, .f32⟩
  | 43 => ⟨S16384x1, .f32⟩
  | 44 => ⟨S16384x1, .f32⟩
  | 45 => ⟨S16384x512, .f32⟩
  | 46 => ⟨S16384x512, .f32⟩
  | 47 => ⟨S1x512, .f32⟩
  | 48 => ⟨S16384x512, .f32⟩
  | 49 => ⟨S16384x512, .f32⟩
  | 50 => ⟨S1x512, .f32⟩
  | 51 => ⟨S16384x512, .f32⟩
  | 52 => ⟨S16384x512, .f32⟩
  | 53 => ⟨S512x512, .f32⟩
  | 54 => ⟨S16384x512, .f32⟩
  | 55 => ⟨S1x512, .f32⟩
  | 56 => ⟨S16384x512, .f32⟩
  | 57 => ⟨S16384x512, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S16384x512, .f32⟩
  | 67 => ⟨S_, .i32⟩
  | 68 => ⟨S256, .i32⟩
  | 69 => ⟨S_, .i32⟩
  | 70 => ⟨S_, .i32⟩
  | 71 => ⟨S16384, .i32⟩
  | 72 => ⟨S16384, .i32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S_, .i32⟩
  | 82 => ⟨S16384, .i32⟩
  | 83 => ⟨S256, .i32⟩
  | 84 => ⟨S256, .f32⟩
  | 85 => ⟨S_, .f32⟩
  | 86 => ⟨S256x512, .f32⟩
  | 87 => ⟨S16384x1, .i32⟩
  | 88 => ⟨S256x512, .f32⟩
  | 89 => ⟨S_, .f32⟩
  | 90 => ⟨S_, .f32⟩
  | 91 => ⟨S256, .f32⟩
  | 92 => ⟨S256, .f32⟩
  | 93 => ⟨S256x1, .f32⟩
  | 94 => ⟨S256x512, .f32⟩
  | 95 => ⟨S256x512, .f32⟩
  | 96 => ⟨S16384x512, .f32⟩
  | 97 => ⟨S_, .f32⟩
  | 98 => ⟨S16384, .f32⟩
  | 99 => ⟨S16384x1, .f32⟩
  | 100 => ⟨S16384x1, .f32⟩
  | 101 => ⟨S_, .f32⟩
  | 102 => ⟨S_, .f32⟩
  | 103 => ⟨S16384x1, .f32⟩
  | 104 => ⟨S16384x1, .f32⟩
  | 105 => ⟨S16384x512, .f32⟩
  | 106 => ⟨S16384x512, .f32⟩
  | 107 => ⟨S256x512, .f32⟩
  | 108 => ⟨S_, .f32⟩
  | 109 => ⟨S256, .f32⟩
  | 110 => ⟨S256x1, .f32⟩
  | 111 => ⟨S256x1, .f32⟩
  | 112 => ⟨S_, .f32⟩
  | 113 => ⟨S_, .f32⟩
  | 114 => ⟨S256x1, .f32⟩
  | 115 => ⟨S256x1, .f32⟩
  | 116 => ⟨S256x512, .f32⟩
  | 117 => ⟨S256x512, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x512, .f32⟩
  | 127 => ⟨S16384x512, .f32⟩
  | _ => ⟨S16384x512, .f32⟩

abbrev hbmTy0_1 (i : Nat) : BufTy := match i % 128 with
  | 0 => ⟨S_, .f32⟩
  | 1 => ⟨S16384, .f32⟩
  | 2 => ⟨S_, .f32⟩
  | 3 => ⟨S16384, .f32⟩
  | 4 => ⟨S16384, .f32⟩
  | 5 => ⟨S_, .f32⟩
  | 6 => ⟨S256, .f32⟩
  | 7 => ⟨S16384x1, .i32⟩
  | 8 => ⟨S256, .f32⟩
  | 9 => ⟨S_, .f32⟩
  | 10 => ⟨S_, .f32⟩
  | 11 => ⟨S256, .f32⟩
  | 12 => ⟨S256, .f32⟩
  | 13 => ⟨S256, .f32⟩
  | 14 => ⟨S_, .f32⟩
  | 15 => ⟨S256, .f32⟩
  | 16 => ⟨S256, .i1⟩
  | 17 => ⟨S256, .f32⟩
  | 18 => ⟨S256, .f32⟩
  | 19 => ⟨S256, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i32⟩
  | 29 => ⟨S256, .i32⟩
  | 30 => ⟨S_, .i32⟩
  | 31 => ⟨S_, .i32⟩
  | 32 => ⟨S16384, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S_, .i32⟩
  | 43 => ⟨S16384, .i32⟩
  | 44 => ⟨S256, .i32⟩
  | 45 => ⟨S256, .f32⟩
  | 46 => ⟨S_, .f32⟩
  | 47 => ⟨S256x512, .f32⟩
  | 48 => ⟨S16384x1, .i32⟩
  | 49 => ⟨S256x512, .f32⟩
  | 50 => ⟨S_, .f32⟩
  | 51 => ⟨S_, .f32⟩
  | 52 => ⟨S256, .f32⟩
  | 53 => ⟨S256, .f32⟩
  | 54 => ⟨S256x1, .f32⟩
  | 55 => ⟨S256x512, .f32⟩
  | 56 => ⟨S256x512, .f32⟩
  | 57 => ⟨S256x512, .f32⟩
  | 58 => ⟨S_, .f32⟩
  | 59 => ⟨S256, .f32⟩
  | 60 => ⟨S256x1, .f32⟩
  | 61 => ⟨S256x1, .f32⟩
  | 62 => ⟨S_, .f32⟩
  | 63 => ⟨S_, .f32⟩
  | 64 => ⟨S256x1, .f32⟩
  | 65 => ⟨S256x1, .f32⟩
  | 66 => ⟨S256x512, .f32⟩
  | 67 => ⟨S256x512, .f32⟩
  | 68 => ⟨S512x256, .f32⟩
  | 69 => ⟨S256x256, .f32⟩
  | 70 => ⟨S_, .f32⟩
  | 71 => ⟨S256x256, .f32⟩
  | 72 => ⟨S256x256, .i32⟩
  | 73 => ⟨S256x256, .i32⟩
  | 74 => ⟨S_, .i32⟩
  | 75 => ⟨S256x256, .i32⟩
  | 76 => ⟨S256x256, .i32⟩
  | 77 => ⟨S256x256, .i1⟩
  | 78 => ⟨S256x256, .f32⟩
  | 79 => ⟨S256x256, .f32⟩
  | 80 => ⟨S256x256, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_2 : Ref sig .tc := ⟨.hbm, 60, rfl⟩
abbrev main_v25 : Ref sig .tc := ⟨.hbm, 61, rfl⟩
abbrev main_v26 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_c_5 : Ref sig .tc := ⟨.hbm, 69, rfl⟩
abbrev main_call1_v0 : Ref sig .tc := ⟨.hbm, 70, rfl⟩
abbrev main_call1_v1 : Ref sig .tc := ⟨.hbm, 71, rfl⟩
abbrev main_v31 : Ref sig .tc := ⟨.hbm, 72, rfl⟩
abbrev main_c_6 : Ref sig .tc := ⟨.hbm, 73, rfl⟩
abbrev main_v32 : Ref sig .tc := ⟨.hbm, 74, rfl⟩
abbrev main_v33 : Ref sig .tc := ⟨.hbm, 75, rfl⟩
abbrev main_c_7 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_c_8 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_9 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_10 : Ref sig .tc := ⟨.hbm, 89, rfl⟩
abbrev main_call2_v0 : Ref sig .tc := ⟨.hbm, 90, rfl⟩
abbrev main_call2_v1 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_call3_v0 : Ref sig .tc := ⟨.hbm, 96, rfl⟩
abbrev main_call3_cst : Ref sig .tc := ⟨.hbm, 97, rfl⟩
abbrev main_call3_v1 : Ref sig .tc := ⟨.hbm, 98, rfl⟩
abbrev main_call3_v2 : Ref sig .tc := ⟨.hbm, 99, rfl⟩
abbrev main_v48 : Ref sig .tc := ⟨.hbm, 100, rfl⟩
abbrev main_cst_11 : Ref sig .tc := ⟨.hbm, 101, rfl⟩
abbrev main_call4_v0 : Ref sig .tc := ⟨.hbm, 102, rfl⟩
abbrev main_call4_v1 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_call5_v0 : Ref sig .tc := ⟨.hbm, 107, rfl⟩
abbrev main_call5_cst : Ref sig .tc := ⟨.hbm, 108, rfl⟩
abbrev main_call5_v1 : Ref sig .tc := ⟨.hbm, 109, rfl⟩
abbrev main_call5_v2 : Ref sig .tc := ⟨.hbm, 110, rfl⟩
abbrev main_v52 : Ref sig .tc := ⟨.hbm, 111, rfl⟩
abbrev main_cst_12 : Ref sig .tc := ⟨.hbm, 112, rfl⟩
abbrev main_call6_v0 : Ref sig .tc := ⟨.hbm, 113, rfl⟩
abbrev main_call6_v1 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_c_13 : Ref sig .tc := ⟨.hbm, 118, rfl⟩
abbrev main_v56 : Ref sig .tc := ⟨.hbm, 119, rfl⟩
abbrev main_v57 : Ref sig .tc := ⟨.hbm, 120, rfl⟩
abbrev main_c_14 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_15 : Ref sig .tc := ⟨.hbm, 128, rfl⟩
abbrev main_v64 : Ref sig .tc := ⟨.hbm, 129, rfl⟩
abbrev main_cst_16 : Ref sig .tc := ⟨.hbm, 130, rfl⟩
abbrev main_v65 : Ref sig .tc := ⟨.hbm, 131, rfl⟩
abbrev main_v66 : Ref sig .tc := ⟨.hbm, 132, rfl⟩
abbrev main_cst_17 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_18 : Ref sig .tc := ⟨.hbm, 137, rfl⟩
abbrev main_call7_v0 : Ref sig .tc := ⟨.hbm, 138, rfl⟩
abbrev main_call7_v1 : Ref sig .tc := ⟨.hbm, 139, rfl⟩
abbrev main_v70 : Ref sig .tc := ⟨.hbm, 140, rfl⟩
abbrev main_v71 : Ref sig .tc := ⟨.hbm, 141, rfl⟩
abbrev main_cst_19 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_20 : Ref sig .tc := ⟨.hbm, 148, rfl⟩
abbrev main_v77 : Ref sig .tc := ⟨.hbm, 149, rfl⟩
abbrev main_cst_21 : Ref sig .tc := ⟨.hbm, 150, rfl⟩
abbrev main_v78 : Ref sig .tc := ⟨.hbm, 151, rfl⟩
abbrev main_cst_22 : Ref sig .tc := ⟨.hbm, 152, rfl⟩
abbrev main_call8_v0 : Ref sig .tc := ⟨.hbm, 153, rfl⟩
abbrev main_v79 : Ref sig .tc := ⟨.hbm, 154, rfl⟩
abbrev main_v80 : Ref sig .tc := ⟨.hbm, 155, rfl⟩
abbrev main_c_23 : Ref sig .tc := ⟨.hbm, 156, rfl⟩
abbrev main_v81 : Ref sig .tc := ⟨.hbm, 157, rfl⟩
abbrev main_c_24 : Ref sig .tc := ⟨.hbm, 158, rfl⟩
abbrev main_call9_v0 : Ref sig .tc := ⟨.hbm, 159, rfl⟩
abbrev main_call9_v1 : Ref sig .tc := ⟨.hbm, 160, rfl⟩
abbrev main_v82 : Ref sig .tc := ⟨.hbm, 161, rfl⟩
abbrev main_c_25 : Ref sig .tc := ⟨.hbm, 162, rfl⟩
abbrev main_v83 : Ref sig .tc := ⟨.hbm, 163, rfl⟩
abbrev main_v84 : Ref sig .tc := ⟨.hbm, 164, rfl⟩
abbrev main_c_26 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_c_27 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_28 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_cst_29 : Ref sig .tc := ⟨.hbm, 178, rfl⟩
abbrev main_call10_v0 : Ref sig .tc := ⟨.hbm, 179, rfl⟩
abbrev main_call10_v1 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_call11_v0 : Ref sig .tc := ⟨.hbm, 185, rfl⟩
abbrev main_call11_cst : Ref sig .tc := ⟨.hbm, 186, rfl⟩
abbrev main_call11_v1 : Ref sig .tc := ⟨.hbm, 187, rfl⟩
abbrev main_call11_v2 : Ref sig .tc := ⟨.hbm, 188, rfl⟩
abbrev main_v99 : Ref sig .tc := ⟨.hbm, 189, rfl⟩
abbrev main_cst_30 : Ref sig .tc := ⟨.hbm, 190, rfl⟩
abbrev main_call12_v0 : Ref sig .tc := ⟨.hbm, 191, rfl⟩
abbrev main_call12_v1 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_cst_31 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_c_32 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_cst_33 : Ref sig .tc := ⟨.hbm, 209, rfl⟩
abbrev main_v114 : Ref sig .tc := ⟨.hbm, 210, rfl⟩
abbrev main_cst_34 : Ref sig .tc := ⟨.hbm, 211, rfl⟩
abbrev main_v115 : Ref sig .tc := ⟨.hbm, 212, rfl⟩
abbrev main_cst_35 : Ref sig .tc := ⟨.hbm, 213, rfl⟩
abbrev main_v116 : Ref sig .tc := ⟨.hbm, 214, rfl⟩
abbrev main_v117 : Ref sig .tc := ⟨.hbm, 215, rfl⟩
abbrev main_cst_36 : Ref sig .tc := ⟨.hbm, 216, rfl⟩
abbrev main_v118 : Ref sig .tc := ⟨.hbm, 217, rfl⟩
abbrev main_cst_37 : Ref sig .tc := ⟨.hbm, 218, rfl⟩
abbrev main_v119 : Ref sig .tc := ⟨.hbm, 219, rfl⟩
abbrev main_v120 : Ref sig .tc := ⟨.hbm, 220, rfl⟩
abbrev main_cst_38 : Ref sig .tc := ⟨.hbm, 221, rfl⟩
abbrev main_v121 : Ref sig .tc := ⟨.hbm, 222, rfl⟩
abbrev main_cst_39 : Ref sig .tc := ⟨.hbm, 223, rfl⟩
abbrev main_v122 : Ref sig .tc := ⟨.hbm, 224, rfl⟩

abbrev nD : Nat := 1
abbrev τ : Topo := Topo.v7x

variable {F : FTy → Type} [FloatOps F]
-- ==== Proof.Consts.lean ====
/- The float constants that the two programs and the precondition spell, as the extended reals that they denote, and the
   two constants that the kernel has by name. -/
module

public import proofs.«01_k».proof.KernelIdeal
public import Idealize.ShloMosaic.PureOps.Ideal
public import Idealize.ShloMosaic.PureOps.IdealRules

@[expose] public section

noncomputable section

namespace Cert.Fragments

open Idealize.ShloMosaic

/-- The floor of a norm and of a weight sum, `1e-12` rounded to the format. -/
def tinyR : ℝ := 9223372 / 9223372036854775808

/-- The layer norm's addend, `1e-5` rounded to the format. -/
def lnEpsR : ℝ := 10995116 / 1099511627776

/-- The weight of the interfragment term, `0.2` rounded to the format. -/
def weightR : ℝ := 13421773 / 67108864

/-- The product of the two printed loss scales, `0.03` and `0.05`, each rounded to the format. -/
def scaleR : ℝ := 216172780503171 / 144115188075855872

/-- The number of ordered pairs of distinct fragments plus `1e-6` rounded to the format. -/
def pairsR : ℝ := 574208952498534333 / 8796093022208

theorem tinyR_pos : 0 < tinyR := by unfold tinyR; norm_num

theorem lnEpsR_pos : 0 < lnEpsR := by unfold lnEpsR; norm_num

theorem pairsR_ne : pairsR ≠ 0 := by unfold pairsR; norm_num

theorem word_zero : Ideal.ofBits .f32 0x00000000#32 = ((0 : ℝ) : EReal) := by
  simp [Ideal.ofBits, Ideal.ieee, -EReal.coe_mul]

theorem word_one : Ideal.ofBits .f32 0x3F800000#32 = ((1 : ℝ) : EReal) := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

theorem word_width : Ideal.ofBits .f32 0x44000000#32 = ((512 : ℝ) : EReal) := by
  simp [Ideal.ofBits, Ideal.ieee, -EReal.coe_mul]; norm_num

theorem word_tiny : Ideal.ofBits .f32 0x2B8CBCCC#32 = ((tinyR : ℝ) : EReal) := by
  simp [tinyR, Ideal.ofBits, Ideal.ieee, -EReal.coe_mul]; norm_num

theorem word_lnEps : Ideal.ofBits .f32 0x3727C5AC#32 = ((lnEpsR : ℝ) : EReal) := by
  simp [lnEpsR, Ideal.ofBits, Ideal.ieee, -EReal.coe_mul]; norm_num

theorem word_weight : Ideal.ofBits .f32 0x3E4CCCCD#32 = ((weightR : ℝ) : EReal) := by
  simp [weightR, Ideal.ofBits, Ideal.ieee, -EReal.coe_mul]; norm_num

theorem word_micro : Ideal.ofBits .f32 0x358637BD#32 = ((8796093 / 8796093022208 : ℝ) : EReal) := by
  simp [Ideal.ofBits, Ideal.ieee, -EReal.coe_mul]; norm_num

theorem word_loss : Ideal.ofBits .f32 0x3CF5C28F#32 = ((16106127 / 536870912 : ℝ) : EReal) := by
  simp [Ideal.ofBits, Ideal.ieee, -EReal.coe_mul]; norm_num

theorem word_aux : Ideal.ofBits .f32 0x3D4CCCCD#32 = ((13421773 / 268435456 : ℝ) : EReal) := by
  simp [Ideal.ofBits, Ideal.ieee, -EReal.coe_mul]; norm_num

/-- The kernel's named scale is the product of the reference's two scales. -/
theorem name_scale :
    Named.named (F := Ideal) (φ := .f32) Cert.KernelIdeal.κ "scale" 0x3AC49BA6#32 = ((scaleR : ℝ) : EReal) :=
  IdealRules.named_const.ideal_named_scalar _ _ _ _ rfl

/-- The kernel's named pair count is the reference's sum of its mask plus its addend. -/
theorem name_pairs :
    Named.named (F := Ideal) (φ := .f32) Cert.KernelIdeal.κ "pairs" 0x477F0000#32 = ((pairsR : ℝ) : EReal) :=
  IdealRules.named_const.ideal_named_scalar _ _ _ _ rfl

end Cert.Fragments

end
-- ==== Proof.Directions.lean ====
/- A vector divided by its norm, the norm floored by a small positive number: over the extended reals its entries are
   always real, and it does not change when the vector is first divided by a number `d ≥ 1` whose quotient's norm is zero
   or at least the floor. -/
module

public import proofs.«01_k».proof.Proof.Consts

@[expose] public section

noncomputable section

namespace Cert.Fragments

open Idealize.ShloMosaic

/-- The quotient of two reals, the second not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A quotient by the greatest element is zero. -/
theorem div_top (x : EReal) : Ideal.div x ⊤ = 0 := by
  unfold Ideal.div
  rw [if_neg EReal.top_ne_zero, EReal.inv_top, mul_zero]

/-- The root of a real that is not negative. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The greater of two reals. -/
theorem max_coe (a b : ℝ) : max (a : EReal) (b : EReal) = ((max a b : ℝ) : EReal) :=
  (EReal.coe_strictMono.monotone.map_max).symm

/-- A sum of reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A square is not negative. -/
theorem sq_nonneg' (x : EReal) : 0 ≤ x * x := by
  induction x with
  | bot => simp
  | top => simp
  | coe r => rw [← EReal.coe_mul]; exact_mod_cast mul_self_nonneg r

/-- The sum of the squares of a vector that has an entry that is not real is the greatest element. -/
theorem sum_sq_top {n : ℕ} (v : Fin n → EReal) (k : Fin n) (hk : v k = ⊤ ∨ v k = ⊥) : ∑ i, v i * v i = ⊤ := by
  have h : v k * v k = ⊤ := by rcases hk with h | h <;> rw [h] <;> simp
  refine top_le_iff.mp ?_
  rw [← h]
  exact Finset.single_le_sum (f := fun i => v i * v i) (fun i _ => sq_nonneg' (v i)) (Finset.mem_univ k)

/-- Either some entry of a vector is not real, or the vector is one of reals. -/
theorem entry_or_real {n : ℕ} (v : Fin n → EReal) :
    (∃ k, v k = ⊤ ∨ v k = ⊥) ∨ ∃ r : Fin n → ℝ, v = fun i => (r i : EReal) := by
  by_cases h : ∃ k, v k = ⊤ ∨ v k = ⊥
  · exact Or.inl h
  · push Not at h
    exact Or.inr ⟨fun i => (v i).toReal, funext fun i => (EReal.coe_toReal (h i).1 (h i).2).symm⟩

/-- The norm of a vector. -/
def norm {n : ℕ} (v : Fin n → EReal) : EReal := Ideal.sqrt (∑ k, v k * v k)

/-- A vector over the greater of its norm and the floor. -/
def dir {n : ℕ} (v : Fin n → EReal) (j : Fin n) : EReal := Ideal.div (v j) (max (norm v) (tinyR : EReal))

/-- The norm of a real vector. -/
def normR {n : ℕ} (r : Fin n → ℝ) : ℝ := Real.sqrt (∑ k, r k * r k)

theorem norm_coe {n : ℕ} (r : Fin n → ℝ) : norm (fun i => (r i : EReal)) = ((normR r : ℝ) : EReal) := by
  unfold norm normR
  rw [← sqrt_coe _ (Finset.sum_nonneg fun k _ => mul_self_nonneg (r k)), ← sum_coe]
  simp only [EReal.coe_mul]

theorem norm_top {n : ℕ} (v : Fin n → EReal) (h : ∃ k, v k = ⊤ ∨ v k = ⊥) : norm v = ⊤ := by
  obtain ⟨k, hk⟩ := h
  unfold norm
  rw [sum_sq_top v k hk]
  rfl

theorem dir_top {n : ℕ} (v : Fin n → EReal) (h : ∃ k, v k = ⊤ ∨ v k = ⊥) (j : Fin n) : dir v j = 0 := by
  unfold dir
  rw [norm_top v h, max_eq_left le_top, div_top]

theorem dir_coe {n : ℕ} (r : Fin n → ℝ) (j : Fin n) :
    dir (fun i => (r i : EReal)) j = ((r j / max (normR r) tinyR : ℝ) : EReal) := by
  unfold dir
  rw [norm_coe, max_coe, div_coe _ _ (lt_of_lt_of_le tinyR_pos (le_max_right _ _)).ne']

/-- The entries of a normalized vector are real, whatever the vector holds. -/
theorem dir_real {n : ℕ} (v : Fin n → EReal) (j : Fin n) : dir v j = (((dir v j).toReal : ℝ) : EReal) := by
  rcases entry_or_real v with h | ⟨r, rfl⟩
  · rw [dir_top v h]; simp
  · rw [dir_coe, EReal.toReal_coe]

/-- The norm of a real vector divided by a positive real. -/
theorem normR_div {n : ℕ} (r : Fin n → ℝ) (d : ℝ) (hd : 0 < d) : normR (fun i => r i / d) = normR r / d := by
  unfold normR
  have : ∑ k, r k / d * (r k / d) = (∑ k, r k * r k) / (d * d) := by
    rw [Finset.sum_div]
    exact Finset.sum_congr rfl fun k _ => div_mul_div_comm _ _ _ _
  rw [this, Real.sqrt_div (Finset.sum_nonneg fun k _ => mul_self_nonneg (r k)), Real.sqrt_mul_self hd.le]

/-- A real vector of norm zero is zero. -/
theorem eq_zero_of_normR {n : ℕ} (r : Fin n → ℝ) (h : normR r = 0) (j : Fin n) : r j = 0 := by
  unfold normR at h
  rw [Real.sqrt_eq_zero (Finset.sum_nonneg fun k _ => mul_self_nonneg (r k)),
    Finset.sum_eq_zero_iff_of_nonneg (fun k _ => mul_self_nonneg (r k))] at h
  exact mul_self_eq_zero.mp (h j (Finset.mem_univ j))

/-- Division of the vector by `d ≥ 1` does not change its normalized entries, when `d = 1` or the quotient's norm is
    zero or at least the floor. -/
theorem dir_div {n : ℕ} (v : Fin n → EReal) (d : ℝ) (hd : 1 ≤ d)
    (h : d = 1 ∨ norm (fun i => Ideal.div (v i) (d : EReal)) = 0
      ∨ (tinyR : EReal) ≤ norm (fun i => Ideal.div (v i) (d : EReal))) (j : Fin n) :
    dir (fun i => Ideal.div (v i) (d : EReal)) j = dir v j := by
  have hd0 : 0 < d := lt_of_lt_of_le one_pos hd
  rcases entry_or_real v with hv | ⟨r, rfl⟩
  · rw [dir_top v hv, dir_top]
    obtain ⟨k, hk⟩ := hv
    refine ⟨k, ?_⟩
    unfold Ideal.div
    rw [if_neg (by exact_mod_cast hd0.ne'), ← EReal.coe_inv]
    have hp : (0 : EReal) < ((d⁻¹ : ℝ) : EReal) := by exact_mod_cast inv_pos.mpr hd0
    rcases hk with hk | hk
    · exact Or.inl (by rw [hk]; exact EReal.top_mul_of_pos hp)
    · exact Or.inr (by rw [hk]; exact EReal.bot_mul_of_pos hp)
  · simp only [div_coe _ _ hd0.ne'] at h ⊢
    rw [norm_coe, normR_div r d hd0] at h
    rw [dir_coe, dir_coe, normR_div r d hd0]
    congr 1
    rcases h with h | h | h
    · subst h; simp
    · have h0 : normR r = 0 := by
        have : normR r / d = 0 := by exact_mod_cast h
        rcases div_eq_zero_iff.mp this with h | h
        · exact h
        · exact absurd h hd0.ne'
      rw [eq_zero_of_normR r h0 j]; simp
    · have h1 : tinyR ≤ normR r / d := by exact_mod_cast h
      have h2 : normR r / d ≤ normR r := div_le_self (Real.sqrt_nonneg _) hd
      rw [max_eq_left h1, max_eq_left (h1.trans h2)]
      exact div_div_div_cancel_right₀ hd0.ne' _ _

end Cert.Fragments

end
-- ==== Proof.Features.lean ====
/- The feature vector of one row: the layer norm of the row, the linear map with its bias, and the activation; and the two
   spellings of the normalised entry, which agree for every extended real row. -/
module

public import proofs.«01_k».proof.Proof.Directions

@[expose] public section

noncomputable section

namespace Cert.Fragments

open Idealize.ShloMosaic

variable (x γ β : Fin 512 → EReal) (W : Fin 512 → Fin 512 → EReal) (b : Fin 512 → EReal)

/-- The mean of a row. -/
def rowMean : EReal := Ideal.div (∑ k, x k) ((512 : ℝ) : EReal)

/-- The variance of a row. -/
def rowVar : EReal := Ideal.div (∑ k, (x k - rowMean x) * (x k - rowMean x)) ((512 : ℝ) : EReal)

/-- The layer norm of a row with its scale and its shift. -/
def layerNorm (k : Fin 512) : EReal :=
  (x k - rowMean x) * Ideal.rsqrt (rowVar x + (lnEpsR : EReal)) * γ k + β k

/-- The linear map of the normalised row. -/
def linear (j : Fin 512) : EReal := (∑ k, layerNorm x γ β k * W j k) + b j

/-- The features of a row: the linear map's entries, each times its logistic. -/
def feat (j : Fin 512) : EReal := linear x γ β W b j * Ideal.logistic (linear x γ β W b j)

/-- The variance of a row is not negative. -/
theorem rowVar_nonneg : 0 ≤ rowVar x := by
  unfold rowVar
  rw [Ideal.div, if_neg (by norm_num)]
  refine mul_nonneg (Finset.sum_nonneg fun k _ => sq_nonneg' _) ?_
  rw [← EReal.coe_inv]
  exact EReal.coe_nonneg.2 (by norm_num)

/-- Multiplying by the reciprocal root of a positive extended real is dividing by its root. -/
theorem mul_rsqrt (a v : EReal) (hv : 0 < v) : a * Ideal.rsqrt v = Ideal.div a (Ideal.sqrt v) := by
  induction v using EReal.rec with
  | bot => exact absurd hv (by simp)
  | top =>
    have : Ideal.sqrt ⊤ = ⊤ := rfl
    rw [this, Ideal.div, if_neg (by simp), EReal.inv_top]; rfl
  | coe r =>
    have hr : 0 < r := EReal.coe_pos.1 hv
    have hs : Real.sqrt r ≠ 0 := (Real.sqrt_pos.2 hr).ne'
    rw [sqrt_coe r hr.le, Ideal.div, if_neg (by simpa using hs), ← EReal.coe_inv]
    have e : Ideal.rsqrt (r : EReal)
        = if r < 0 then (⊥ : EReal) else if r = 0 then ⊤ else (((Real.sqrt r)⁻¹ : ℝ) : EReal) := rfl
    rw [e, if_neg (not_lt.2 hr.le), if_neg hr.ne']

/-- The normalised entry as a quotient by the root. -/
theorem normalised (k : Fin 512) :
    (x k - rowMean x) * Ideal.rsqrt (rowVar x + (lnEpsR : EReal))
      = Ideal.div (x k - rowMean x) (Ideal.sqrt (rowVar x + (lnEpsR : EReal))) :=
  mul_rsqrt _ _ (by
    have h : (0 : EReal) < (lnEpsR : EReal) := EReal.coe_pos.2 lnEpsR_pos
    exact lt_of_lt_of_le h (le_add_of_nonneg_left (rowVar_nonneg x)))

end Cert.Fragments

end
-- ==== Proof.RefFeatures.lean ====
/- The reference's features: at every row and column, the feature that the kernel computes there. -/
module

public import proofs.«01_k».proof.Proof.Gen.ReferenceIdeal.Read
public import proofs.«01_k».proof.Proof.Features
public import Idealize.ShloMosaic.Lib.Pointwise

@[expose] public section

set_option maxRecDepth 16384

noncomputable section

namespace Cert.Fragments

open Idealize.ShloMosaic Idealize.ShloMosaic.TcCoe Idealize.ShloMosaic.Tactic
open Cert.ReferenceIdeal Cert.ReferenceIdeal.Read

variable (x : (⟨S16384x512, .f32⟩ : BufTy).Contents (Elt Ideal)) (γ β : (⟨S512, .f32⟩ : BufTy).Contents (Elt Ideal))
  (W : (⟨S512x512, .f32⟩ : BufTy).Contents (Elt Ideal)) (b : (⟨S512, .f32⟩ : BufTy).Contents (Elt Ideal))

/-- The mean of row `n`. -/
theorem mean_at (n : Fin 16384) : val_main_v3 (F := Ideal) x (ix2 n 0) = rowMean (fun k => x (ix2 n k)) := by
  pointwise [val_main_v3, val_main_v1, val_main_v2, val_main_v0, val_main_cst, val_main_cst_0]
  rw [word_width]
  rfl

/-- The variance of row `n`. -/
theorem variance_at (n : Fin 16384) : val_main_v4 (F := Ideal) x (ix2 n 0) = rowVar (fun k => x (ix2 n k)) := by
  pointwise [val_main_v4, val_main_call0_v13, val_main_call0_v8, val_main_call0_cst_1, val_main_call0_v7, val_main_c, val_main_call0_cst_3,
    val_main_call0_v12, val_main_call0_v10, val_main_call0_v9, val_main_call0_v6, val_main_call0_v5, val_main_call0_v4, val_main_call0_v3, val_main_call0_v2, val_main_call0_v1,
    val_main_call0_v0, val_main_call0_cst, val_main_call0_cst_0, val_main_call0_cst_2, val_main_call0_v11, val_main_call0_call0_v1]
  have e : Ideal.ofBits FTy.f32 1140850688#32 - FloatOps.sitofp (F := Ideal) FTy.f32 0#32 = ((512 : ℝ) : EReal) := by
    have z : FloatOps.sitofp (F := Ideal) FTy.f32 0#32 = (((0#32 : BitVec 32).toInt : ℝ) : EReal) := rfl
    rw [word_width, z]
    norm_num
  rw [e, if_pos (EReal.coe_pos.2 (by norm_num)), word_width]
  rfl

/-- The normalised entries of row `n`. -/
theorem layerNorm_at (n : Fin 16384) (k : Fin 512) : val_main_v17 (F := Ideal) x γ β (ix2 n k)
    = layerNorm (fun k => x (ix2 n k)) (fun k => γ (ix1 k)) (fun k => β (ix1 k)) k := by
  pointwise [val_main_v17, val_main_v14, val_main_v11, val_main_v6, val_main_v5, val_main_v10, val_main_v9, val_main_v8,
    val_main_v7, val_main_cst_1, val_main_v13, val_main_v12, val_main_v16, val_main_v15]
  rw [mean_at, variance_at, word_lnEps]
  unfold layerNorm
  exact congrArg (fun z => z * γ (ix1 k) + β (ix1 k)) (normalised (fun k => x (ix2 n k)) k).symm

/-- The features of row `n`. -/
theorem feat_at (n : Fin 16384) (j : Fin 512) : val_main_v29 (F := Ideal) x γ β W b (ix2 n j)
    = feat (fun k => x (ix2 n k)) (fun k => γ (ix1 k)) (fun k => β (ix1 k)) (fun j k => W (ix2 j k)) (fun j => b (ix1 j)) j := by
  pointwise [val_main_v29, val_main_v28, val_main_v27, val_main_v26, val_main_v25, val_main_v24, val_main_v23, val_main_cst_2, val_main_cst_3,
    val_main_v22, val_main_v21, val_main_v20, val_main_v19, val_main_v18]
  simp only [layerNorm_at]
  rfl

end Cert.Fragments

end
-- ==== Proof.LossReal.lean ====
/- The two identities of real sums that make the kernel's loss the reference's: the deviations of a fragment's rows summed
   row by row or from the fragment's running sums, and the sum of the products of distinct fragments' directions taken
   pair by pair or from the sum of all of them. -/
module

public import Mathlib.Algebra.BigOperators.Field
public import Mathlib.Analysis.SpecialFunctions.Pow.Real

@[expose] public section

noncomputable section

namespace Cert.Fragments

variable {R G H : ℕ}

/-- The sum over the rows of fragment `g` of one minus the product of the row with the fragment's vector is the number of
    rows minus the product of the rows' sum with that vector. -/
theorem deviation_sum (seg : Fin R → ℕ) (u : Fin R → Fin H → ℝ) (w : Fin G → Fin H → ℝ) (g : Fin G) :
    (∑ n, if seg n = g.val then 1 - ∑ j, u n j * w g j else 0)
      = (∑ n, if seg n = g.val then (1 : ℝ) else 0) - ∑ j, (∑ n, if seg n = g.val then u n j else 0) * w g j := by
  have h : ∀ n, (if seg n = g.val then 1 - ∑ j, u n j * w g j else 0)
      = (if seg n = g.val then (1 : ℝ) else 0) - ∑ j, (if seg n = g.val then u n j else 0) * w g j := by
    intro n
    by_cases e : seg n = g.val
    · simp only [e, if_true]
    · simp only [e, if_false, zero_mul, Finset.sum_const_zero, sub_zero]
  rw [Finset.sum_congr rfl fun n _ => h n, Finset.sum_sub_distrib, Finset.sum_comm]
  simp only [Finset.sum_mul]

/-- A fragment's mean deviation times its weight is its summed deviation, where the weight is its number of rows from three
    rows on and zero below. -/
theorem weighted_mean (c x : ℝ) :
    x / max 1 c * (c * (if 3 ≤ c then 1 else 0)) = (if 3 ≤ c then (1 : ℝ) else 0) * x := by
  by_cases h : 3 ≤ c
  · have hc : c ≠ 0 := by linarith
    rw [if_pos h, max_eq_right (by linarith), mul_one, one_mul, div_mul_cancel₀ _ hc]
  · rw [if_neg h, mul_zero, mul_zero, zero_mul]

/-- The products of distinct fragments' vectors, summed over all ordered pairs. -/
theorem pair_sum (w : Fin G → Fin H → ℝ) :
    (∑ g, ∑ h, (∑ j, w g j * w h j) * (1 - if g = h then (1 : ℝ) else 0))
      = (∑ j, (∑ g, w g j) * ∑ g, w g j) - ∑ g, ∑ j, w g j * w g j := by
  have h1 : ∀ g h : Fin G, (∑ j, w g j * w h j) * (1 - if g = h then (1 : ℝ) else 0)
      = (∑ j, w g j * w h j) - if g = h then ∑ j, w g j * w h j else 0 := by
    intro g h
    by_cases e : g = h <;> simp [e]
  simp only [h1, Finset.sum_sub_distrib, Finset.sum_ite_eq, Finset.mem_univ, if_true]
  congr 1
  simp only [Finset.sum_mul_sum]
  rw [Finset.sum_congr rfl fun g _ => Finset.sum_comm, Finset.sum_comm]

/-- The number of ordered pairs of distinct fragments. -/
theorem pair_count : (∑ g : Fin G, ∑ h : Fin G, (1 - if g = h then (1 : ℝ) else 0)) = (G : ℝ) * G - G := by
  simp only [Finset.sum_sub_distrib, Finset.sum_ite_eq, Finset.mem_univ, if_true, Finset.sum_const, Finset.card_univ,
    Fintype.card_fin, nsmul_eq_mul, mul_one]

end Cert.Fragments

end
-- ==== Proof.Loss.lean ====
/- The loss as the reference has it and as the kernel has it, as functions of the rows' features and of the fragment number
   that each row has, and their equality. A row whose number is that of no fragment is in none. -/
module

public import proofs.«01_k».proof.Proof.Directions
public import proofs.«01_k».proof.Proof.LossReal

@[expose] public section

noncomputable section

namespace Cert.Fragments

open Idealize.ShloMosaic

variable {R G H : ℕ} (f : Fin R → Fin H → EReal) (seg : Fin R → ℕ)

/-- The sum of `h` over the rows of fragment `g`. -/
def segSum (h : Fin R → EReal) (g : Fin G) : EReal := ∑ n, if seg n = g.val then h n else 0

/-- The number of rows of fragment `g`. -/
def rowCount (g : Fin G) : EReal := segSum seg (fun _ => 1) g

/-- One for a fragment of three rows or more, zero for a smaller one. -/
def kept (g : Fin G) : EReal := if 3 ≤ rowCount seg g then 1 else 0

/-- The mean feature vector of fragment `g`; of a fragment without rows, zero. -/
def groupMean (g : Fin G) (j : Fin H) : EReal := Ideal.div (segSum seg (fun n => f n j) g) (max 1 (rowCount seg g))

/-- One minus the product of row `n`'s direction with the direction of fragment `g`'s mean. -/
def deviation (g : Fin G) (n : Fin R) : EReal := 1 - ∑ j, dir (f n) j * dir (groupMean f seg g) j

/-- The reference's consistency term: the kept fragments' mean deviations, weighted by their numbers of rows. -/
def refConsistency : EReal :=
  Ideal.div (∑ g : Fin 256, Ideal.div (segSum seg (deviation f seg g) g) (max 1 (rowCount seg g)) * (rowCount seg g * kept seg g))
    (max (tinyR : EReal) (∑ g : Fin 256, rowCount seg g * kept seg g))

/-- One for two distinct fragments, zero for a fragment with itself. -/
def distinct (g h : Fin G) : EReal := 1 - if g = h then 1 else 0

/-- The reference's interfragment term. -/
def refInter : EReal :=
  Ideal.div (∑ g : Fin 256, ∑ h : Fin 256, (∑ j, dir (groupMean f seg g) j * dir (groupMean f seg h) j) * distinct g h)
    ((∑ g : Fin 256, ∑ h : Fin 256, distinct g h) + ((8796093 / 8796093022208 : ℝ) : EReal))

/-- The reference's loss. -/
def refLoss : EReal :=
  ((16106127 / 536870912 : ℝ) : EReal) * (refConsistency f seg + 0 + (weightR : EReal) * refInter f seg)
    * ((13421773 / 268435456 : ℝ) : EReal)

/-- The direction of fragment `g`'s summed features. -/
def sumDir (g : Fin G) (j : Fin H) : EReal := dir (fun k => segSum seg (fun n => f n k) g) j

/-- The kernel's consistency term, from the sums of the rows' directions. -/
def kernelConsistency : EReal :=
  Ideal.div (∑ g : Fin 256, kept seg g * (rowCount seg g - ∑ j, segSum seg (fun n => dir (f n) j) g * sumDir f seg g j))
    (max (∑ g : Fin 256, kept seg g * rowCount seg g) (tinyR : EReal))

/-- The kernel's sum over pairs of distinct fragments. -/
def kernelPairs : EReal :=
  (∑ j, (∑ g : Fin 256, sumDir f seg g j) * ∑ g : Fin 256, sumDir f seg g j) - ∑ g : Fin 256, ∑ j, sumDir f seg g j * sumDir f seg g j

/-- The kernel's loss. -/
def kernelLoss : EReal :=
  (scaleR : EReal) * (kernelConsistency f seg + (weightR : EReal) * Ideal.div (kernelPairs f seg) (pairsR : EReal))

/-- The sum of reals over a fragment's rows. -/
theorem segSum_coe (h : Fin R → ℝ) (g : Fin G) :
    segSum seg (fun n => (h n : EReal)) g = ((∑ n, if seg n = g.val then h n else 0 : ℝ) : EReal) := by
  unfold segSum
  rw [← sum_coe]
  refine Finset.sum_congr rfl fun n _ => ?_
  split_ifs <;> simp

theorem rowCount_coe (g : Fin G) : rowCount seg g = ((∑ n, if seg n = g.val then (1 : ℝ) else 0 : ℝ) : EReal) := by
  unfold rowCount
  rw [← segSum_coe]
  simp

theorem kept_coe (g : Fin G) :
    kept seg g = (((if 3 ≤ ∑ n, if seg n = g.val then (1 : ℝ) else 0 then 1 else 0 : ℝ)) : EReal) := by
  unfold kept
  rw [rowCount_coe]
  have : (3 : EReal) = ((3 : ℝ) : EReal) := rfl
  simp only [this, EReal.coe_le_coe_iff]
  split_ifs <;> rfl

/-- Where every fragment has at most one row or a mean of norm zero or at least the floor, the direction of a fragment's
    mean is the direction of its sum. -/
theorem groupMean_dir
    (hok : ∀ g : Fin G, rowCount seg g ≤ 1 ∨ norm (groupMean f seg g) = 0 ∨ (tinyR : EReal) ≤ norm (groupMean f seg g))
    (g : Fin G) (j : Fin H) : dir (groupMean f seg g) j = sumDir f seg g j := by
  have hm : max 1 (rowCount seg g) = ((max 1 (∑ n, if seg n = g.val then (1 : ℝ) else 0) : ℝ) : EReal) := by
    rw [rowCount_coe, ← max_coe]; rfl
  have hok := hok g
  unfold sumDir
  have e : groupMean f seg g
      = fun k => Ideal.div (segSum seg (fun n => f n k) g) ((max 1 (∑ n, if seg n = g.val then (1 : ℝ) else 0) : ℝ) : EReal) := by
    funext k; unfold groupMean; rw [hm]
  rw [e] at hok ⊢
  refine dir_div _ _ (le_max_left _ _) (hok.imp_left fun h => max_eq_left ?_) j
  rw [rowCount_coe] at h
  exact_mod_cast h

/-- The two losses are equal. -/
theorem refLoss_eq (f : Fin R → Fin H → EReal) (seg : Fin R → ℕ)
    (hok : ∀ g : Fin 256, rowCount seg g ≤ 1 ∨ norm (groupMean f seg g) = 0 ∨ (tinyR : EReal) ≤ norm (groupMean f seg g)) :
    refLoss f seg = kernelLoss f seg := by
  obtain ⟨u, hu⟩ : ∃ u : Fin R → Fin H → ℝ, ∀ n j, dir (f n) j = (u n j : EReal) :=
    ⟨fun n j => (dir (f n) j).toReal, fun n j => dir_real _ _⟩
  obtain ⟨w, hw⟩ : ∃ w : Fin 256 → Fin H → ℝ, ∀ g j, sumDir f seg g j = (w g j : EReal) :=
    ⟨fun g j => (sumDir f seg g j).toReal, fun g j => dir_real _ _⟩
  have hc : refConsistency f seg = kernelConsistency f seg := by
    unfold refConsistency kernelConsistency deviation
    simp only [groupMean_dir f seg hok, hu, hw]
    have h1 : ∀ (g : Fin 256) (n : Fin R), (1 : EReal) - ∑ j, (u n j : EReal) * (w g j : EReal)
        = ((1 - ∑ j, u n j * w g j : ℝ) : EReal) := by
      intro g n
      rw [EReal.coe_sub, ← sum_coe]
      simp only [EReal.coe_mul]
      rfl
    have one : (1 : EReal) = ((1 : ℝ) : EReal) := rfl
    simp only [h1, segSum_coe, rowCount_coe, kept_coe, one, max_coe, ← EReal.coe_mul, sum_coe, ← EReal.coe_sub]
    have hd : ∀ g : Fin 256, max 1 (∑ n, if seg n = g.val then (1 : ℝ) else 0) ≠ 0 := fun g =>
      (lt_of_lt_of_le one_pos (le_max_left _ _)).ne'
    simp only [div_coe _ _ (hd _), ← EReal.coe_mul, sum_coe, weighted_mean, deviation_sum, max_comm tinyR]
    have hk : ∀ g : Fin 256, (∑ n, if seg n = g.val then (1 : ℝ) else 0) * (if 3 ≤ ∑ n, if seg n = g.val then (1 : ℝ) else 0 then 1 else 0)
        = (if 3 ≤ ∑ n, if seg n = g.val then (1 : ℝ) else 0 then (1 : ℝ) else 0) * ∑ n, if seg n = g.val then (1 : ℝ) else 0 :=
      fun g => mul_comm _ _
    simp only [hk]
  have hp : refInter f seg = Ideal.div (kernelPairs f seg) (pairsR : EReal) := by
    unfold refInter kernelPairs distinct
    simp only [groupMean_dir f seg hok, hw]
    have h1 : ∀ g h : Fin 256, (1 : EReal) - (if g = h then 1 else 0) = ((1 - if g = h then (1 : ℝ) else 0 : ℝ) : EReal) := by
      intro g h
      rw [EReal.coe_sub]
      split_ifs <;> rfl
    simp only [h1, ← EReal.coe_mul, sum_coe, ← EReal.coe_sub, ← EReal.coe_add, pair_sum, pair_count]
    congr 2
    unfold pairsR
    norm_num
  obtain ⟨s, hs⟩ : ∃ s : ℝ, kernelConsistency f seg = (s : EReal) := by
    unfold kernelConsistency
    simp only [hu, hw, segSum_coe, rowCount_coe, kept_coe, max_coe, ← EReal.coe_mul, sum_coe, ← EReal.coe_sub]
    exact ⟨_, div_coe _ _ (lt_of_lt_of_le tinyR_pos (le_max_right _ _)).ne'⟩
  obtain ⟨p, hp'⟩ : ∃ p : ℝ, Ideal.div (kernelPairs f seg) (pairsR : EReal) = (p : EReal) := by
    unfold kernelPairs
    simp only [hw, ← EReal.coe_mul, sum_coe, ← EReal.coe_sub]
    exact ⟨_, div_coe _ _ pairsR_ne⟩
  unfold refLoss kernelLoss
  rw [hc, hp, hs, hp']
  have zero : (0 : EReal) = ((0 : ℝ) : EReal) := rfl
  simp only [zero, ← EReal.coe_mul, ← EReal.coe_add, EReal.coe_eq_coe_iff]
  unfold scaleR weightR
  ring

end Cert.Fragments

end
-- ==== Proof.Scatter.lean ====
/- Where the rows of a scatter land and which rows a gather reads, for one index word per row that is not
   negative: the scatters that add are sums over a fragment's rows, a row whose word names none of the 256 fragments being left
   out, and the gather reads a row's fragment where there is one. -/
module

public import proofs.«01_k».proof.ReferenceIdeal
public import proofs.«01_k».proof.Proof.Gen.ReferenceIdeal
public import proofs.«01_k».proof.Proof.Loss
public import Idealize.ShloMosaic.Lib.Routing.Ops
public import Idealize.ShloMosaic.Lib.Routing.OpsPair
public import Idealize.ShloMosaic.Lib.Pipeline.ValueKit
public import Idealize.ShloMosaic.Lib.Pointwise

@[expose] public section

set_option maxRecDepth 16384

noncomputable section

namespace Cert.Fragments

open Idealize.ShloMosaic
open Cert.ReferenceIdeal

/-- A small number's word read as an integer. -/
theorem small_toInt (a : ℕ) (h : a < 2 ^ 31) : (BitVec.ofNat 32 a).toInt = (a : Int) :=
  Idealize.ShloMosaic.StableHlo.Predicate.toInt_ofNat_small a h

/-- A fragment's word read as an integer. -/
theorem word_toInt (g : Fin 256) : (BitVec.ofNat 32 g.val).toInt = (g.val : Int) :=
  small_toInt _ (by have := g.isLt; omega)

variable (idx : IVec S16384x1 32) (seg : Fin 16384 → ℕ)
  (hidx : ∀ n, seg n < 2 ^ 31 ∧ idx (ix2 n 0) = BitVec.ofNat 32 (seg n))

include hidx

/-- In the scatter into a vector, row `n` lands at its fragment. -/
theorem lands_vector (n : Fin 16384) (g : Fin 256) :
    scatter_S256_S16384x1_S16384_n_0_0_1.resultIdx? (ix1 n) idx = some (ix1 g) ↔ seg n = g.val := by
  rw [Routing.resultIdx?_eq_some]
  have hs : scatter_S256_S16384x1_S16384_n_0_0_1.start (ix1 n) idx 0 = (seg n : Int) := by
    unfold ScatterDims.start
    rw [dif_pos (by decide)]
    have e : scatter_S256_S16384x1_S16384_n_0_0_1.siIdx (ix1 n) ⟨0, by decide⟩ = ix2 n 0 := by
      funext a
      match a with
      | ⟨0, _⟩ => rfl
      | ⟨1, _⟩ => rfl
    rw [← small_toInt _ (hidx n).1, ← (hidx n).2, ← e]
    rfl
  have hw : scatter_S256_S16384x1_S16384_n_0_0_1.window (ix1 n) 0 = 0 := rfl
  constructor
  · intro h
    have h := h 0
    rw [hs, hw] at h
    have h' : (seg n : Int) + ((0 : ℕ) : Int) = (g.val : Int) := h
    omega
  · intro hg a
    match a with
    | ⟨0, _⟩ =>
      show scatter_S256_S16384x1_S16384_n_0_0_1.start (ix1 n) idx 0 + (scatter_S256_S16384x1_S16384_n_0_0_1.window (ix1 n) 0 : Int) = _
      rw [hs, hw]
      show (seg n : Int) + ((0 : ℕ) : Int) = (g.val : Int)
      omega

/-- In the scatter into a matrix, entry `k` of row `n` lands at entry `k` of its fragment. -/
theorem lands_matrix (n : Fin 16384) (k : Fin 512) (g : Fin 256) (j : Fin 512) :
    scatter_S256x512_S16384x1_S16384x512_1_0_0_1.resultIdx? (ix2 n k) idx = some (ix2 g j) ↔ seg n = g.val ∧ k = j := by
  rw [Routing.resultIdx?_eq_some]
  have hs : scatter_S256x512_S16384x1_S16384x512_1_0_0_1.start (ix2 n k) idx 0 = (seg n : Int) := by
    unfold ScatterDims.start
    rw [dif_pos (by decide)]
    have e : scatter_S256x512_S16384x1_S16384x512_1_0_0_1.siIdx (ix2 n k) ⟨0, by decide⟩ = ix2 n 0 := by
      funext a
      match a with
      | ⟨0, _⟩ => rfl
      | ⟨1, _⟩ => rfl
    rw [← small_toInt _ (hidx n).1, ← (hidx n).2, ← e]
    rfl
  have hs1 : scatter_S256x512_S16384x1_S16384x512_1_0_0_1.start (ix2 n k) idx 1 = 0 := by
    unfold ScatterDims.start
    rw [dif_neg (by decide)]
  have hw : scatter_S256x512_S16384x1_S16384x512_1_0_0_1.window (ix2 n k) 0 = 0 := rfl
  have hw1 : scatter_S256x512_S16384x1_S16384x512_1_0_0_1.window (ix2 n k) 1 = k.val := rfl
  constructor
  · intro h
    have h0 := h 0
    have h1 := h 1
    rw [hs, hw] at h0
    rw [hs1, hw1] at h1
    have h0' : (seg n : Int) + ((0 : ℕ) : Int) = (g.val : Int) := h0
    have h1' : (0 : Int) + (k.val : Int) = (j.val : Int) := h1
    exact ⟨by omega, Fin.ext (by omega)⟩
  · rintro ⟨hg, rfl⟩ a
    match a with
    | ⟨0, _⟩ =>
      show scatter_S256x512_S16384x1_S16384x512_1_0_0_1.start (ix2 n k) idx 0
        + (scatter_S256x512_S16384x1_S16384x512_1_0_0_1.window (ix2 n k) 0 : Int) = _
      rw [hs, hw]
      show (seg n : Int) + ((0 : ℕ) : Int) = (g.val : Int)
      omega
    | ⟨1, _⟩ =>
      show scatter_S256x512_S16384x1_S16384x512_1_0_0_1.start (ix2 n k) idx 1
        + (scatter_S256x512_S16384x1_S16384x512_1_0_0_1.window (ix2 n k) 1 : Int) = _
      rw [hs1, hw1]
      show (0 : Int) + (k.val : Int) = (k.val : Int)
      omega

/-- Adding one number per row into its fragment. -/
theorem scatterAdd_vector (z : FVec Ideal S256 .f32) (hz : ∀ g : Fin 256, z (ix1 g) = 0) (u : FVec Ideal S16384 .f32) (g : Fin 256) :
    Host.scatterAdd scatter_S256_S16384x1_S16384_n_0_0_1 z idx u (ix1 g) = segSum seg (fun n => u (ix1 n)) g := by
  show z (ix1 g) + ∑ j ∈ Finset.univ.filter (fun j => scatter_S256_S16384x1_S16384_n_0_0_1.resultIdx? j idx = some (ix1 g)), u j = _
  rw [hz, zero_add, Finset.sum_filter]
  unfold segSum
  rw [sum_idx1]
  refine Finset.sum_congr rfl fun n _ => ?_
  exact if_congr (lands_vector idx seg hidx n g) rfl rfl

/-- Adding one vector per row into its fragment. -/
theorem scatterAdd_matrix (z : FVec Ideal S256x512 .f32) (hz : ∀ (g : Fin 256) (j : Fin 512), z (ix2 g j) = 0)
    (u : FVec Ideal S16384x512 .f32) (g : Fin 256) (j : Fin 512) :
    Host.scatterAdd scatter_S256x512_S16384x1_S16384x512_1_0_0_1 z idx u (ix2 g j) = segSum seg (fun n => u (ix2 n j)) g := by
  show z (ix2 g j) + ∑ i ∈ Finset.univ.filter
    (fun i => scatter_S256x512_S16384x1_S16384x512_1_0_0_1.resultIdx? i idx = some (ix2 g j)), u i = _
  rw [hz, zero_add, Finset.sum_filter]
  unfold segSum
  rw [sum_idx2]
  refine Finset.sum_congr rfl fun n _ => ?_
  rw [Finset.sum_congr rfl fun k _ => if_congr (lands_matrix idx seg hidx n k g j) rfl rfl]
  by_cases h : seg n = g.val
  · simp [h]
  · simp [h]

omit hidx in
/-- A fold that adds a one at some of the entries of a list adds their number. -/
theorem fold_count {ι : Type} (hit : ι → Prop) [DecidablePred hit] (l : List ι) (z : Nat) :
    l.foldl (fun a n => if hit n then IntOp.addi a 1#32 else a) (BitVec.ofNat 32 z)
      = BitVec.ofNat 32 (z + (l.map fun n => if hit n then 1 else 0).sum) := by
  induction l generalizing z with
  | nil => simp
  | cons n l ih =>
    rw [List.foldl_cons, List.map_cons, List.sum_cons]
    by_cases h : hit n
    · rw [if_pos h, if_pos h, show IntOp.addi (BitVec.ofNat 32 z) 1#32 = BitVec.ofNat 32 (z + 1) from (BitVec.ofNat_add z 1).symm, ih,
        Nat.add_assoc]
    · rw [if_neg h, if_neg h, ih, Nat.zero_add]

/-- The scatter of ones into a vector of zeros counts the rows of every fragment. -/
theorem scatter_words (z : IVec S256 32) (hz : ∀ g : Fin 256, z (ix1 g) = 0#32) (u : IVec S16384 32)
    (hu : ∀ n : Fin 16384, u (ix1 n) = 1#32) (g : Fin 256) :
    Host.scatter scatter_S256_S16384x1_S16384_n_0_0_1 IntOp.addi z idx u (ix1 g)
      = BitVec.ofNat 32 (∑ n, if seg n = g.val then 1 else 0) := by
  have hn : S16384.numel = 16384 := Routing.numel1 16384
  have hs : ∀ k : Fin S16384.numel, S16384.rowMajor.symm k = ix1 (k.cast hn) := fun k =>
    (Routing.symm1 k).trans (eq_ix1 _)
  rw [Routing.scatter_at, hz]
  simp only [hs, hu, lands_vector idx seg hidx]
  rw [fold_count (fun k : Fin S16384.numel => seg (k.cast hn) = g.val) _ 0, Nat.zero_add, ← Fin.sum_univ_def]
  exact congrArg _ (Fintype.sum_equiv (finCongr hn) _ _ fun _ => rfl)

/-- As numbers, the counts are the numbers of rows. -/
theorem scatter_count (z : IVec S256 32) (hz : ∀ g : Fin 256, z (ix1 g) = 0#32) (u : IVec S16384 32)
    (hu : ∀ n : Fin 16384, u (ix1 n) = 1#32) (g : Fin 256) :
    FloatOps.sitofp (F := Ideal) .f32 (Host.scatter scatter_S256_S16384x1_S16384_n_0_0_1 IntOp.addi z idx u (ix1 g))
      = rowCount seg g := by
  have hle : (∑ n, if seg n = g.val then 1 else 0) ≤ 16384 := by
    refine (Finset.sum_le_sum (g := fun _ => 1) fun n _ => ?_).trans (by simp)
    split <;> simp
  rw [scatter_words idx seg hidx z hz u hu]
  show (((BitVec.ofNat 32 (∑ n, if seg n = g.val then 1 else 0)).toInt : ℝ) : EReal) = rowCount seg g
  rw [Idealize.ShloMosaic.StableHlo.Predicate.toInt_ofNat_small _ (by omega), rowCount_coe]
  push_cast
  rfl

/-- Row `n` of the gather is the vector of its fragment. -/
theorem gather_rows {α : Type} (x : S256x512.Idx → α) (n : Fin 16384) (j : Fin 512) (g : Fin 256) (hg : seg n = g.val) :
    Host.gather gather_S256x512_S16384x1_S16384x512_1_0_n_n_0_1_1512 x idx (ix2 n j) = x (ix2 g j) := by
  have e : ∀ {a b : Nat} (p : Fin a) (q : Fin b), (ix2 p q : (⟨2, ![a, b]⟩ : Shape).Idx) = ValueIdx.ix2 p q := fun p q =>
    (ValueIdx.eq_ix2 _)
  rw [e, e]
  exact Routing.gather_row _ rfl rfl rfl rfl rfl x idx n j g
    ((congrArg idx (e n 0).symm).trans ((hidx n).2.trans (by rw [hg]))) (by norm_num)

end Cert.Fragments
-- ==== Proof.RefGroups.lean ====
/- The reference's groups: the counts, the mean vectors and the directions of the fragments, and what every row reads of its own
   fragment. -/
module

public import proofs.«01_k».proof.Proof.Gen.ReferenceIdeal.Read
public import proofs.«01_k».proof.Proof.RefFeatures
public import proofs.«01_k».proof.Proof.Scatter
public import Idealize.ShloMosaic.Lib.Pointwise

@[expose] public section

set_option maxRecDepth 16384

noncomputable section

namespace Cert.Fragments

open Idealize.ShloMosaic Idealize.ShloMosaic.TcCoe Idealize.ShloMosaic.Tactic
open Cert.ReferenceIdeal Cert.ReferenceIdeal.Read

/-- A truth value read as a number. -/
theorem bit_unsigned (p : Prop) [Decidable p] :
    FloatOps.uitofp (F := Ideal) FTy.f32 (BitVec.ofBool (decide p)) = if p then (1 : EReal) else 0 := by
  by_cases h : p
  · simp only [h, decide_true, if_true]
    have e : (BitVec.ofBool true).toNat = 1 := rfl
    show (((BitVec.ofBool true).toNat : ℝ) : EReal) = 1
    rw [e]; norm_num
  · simp only [h, decide_false, if_false]
    show (((BitVec.ofBool false).toNat : ℝ) : EReal) = 0
    norm_num

/-- A small number's word is not negative, so the greater of zero and it is it. -/
theorem word_max (g : ℕ) (hg : g < 2 ^ 31) : IntOp.maxsi 0#32 (BitVec.ofNat 32 g) = BitVec.ofNat 32 g := by
  have h := small_toInt g hg
  unfold IntOp.maxsi
  rw [if_neg]
  rw [BitVec.slt_iff_toInt_lt, h]
  simp

/-- Nor is it wrapped around the number of fragments. -/
theorem word_wrap (g : ℕ) (hg : g < 2 ^ 31) (a : BitVec 32) :
    Scalar.select (IntOp.cmpi .slt (BitVec.ofNat 32 g) 0#32) a (BitVec.ofNat 32 g) = BitVec.ofNat 32 g := by
  refine Routing.wrap_of_lt _ a ?_
  rw [BitVec.toNat_ofNat, Nat.mod_eq_of_lt (by omega)]
  omega

variable (x : (⟨S16384x512, .f32⟩ : BufTy).Contents (Elt Ideal)) (ids : (⟨S16384, .i32⟩ : BufTy).Contents (Elt Ideal))
  (γ β : (⟨S512, .f32⟩ : BufTy).Contents (Elt Ideal))
  (W : (⟨S512x512, .f32⟩ : BufTy).Contents (Elt Ideal)) (b : (⟨S512, .f32⟩ : BufTy).Contents (Elt Ideal))
  (seg : Fin 16384 → ℕ) (hseg : ∀ n, seg n < 2 ^ 31 ∧ ids (ix1 n) = BitVec.ofNat 32 (seg n))

/-- The features of all rows. -/
def refFeat (n : Fin 16384) (j : Fin 512) : EReal :=
  feat (fun k => x (ix2 n k)) (fun k => γ (ix1 k)) (fun k => β (ix1 k)) (fun j k => W (ix2 j k)) (fun j => b (ix1 j)) j

include hseg

theorem ids37 (n : Fin 16384) : seg n < 2 ^ 31 ∧ val_main_v37 (F := Ideal) ids (ix2 n 0) = BitVec.ofNat 32 (seg n) := by
  refine ⟨(hseg n).1, ?_⟩
  pointwise [val_main_v37, val_main_v36, val_main_v33, val_main_v35, val_main_v31, val_main_v32, val_main_v34, val_main_c_6, val_main_c_7,
    val_main_call1_v1, val_main_call1_v0, val_main_c_5]
  rw [(hseg n).2, show id (constantI S_ 32 0#32) ix0 = 0#32 from rfl, word_max _ (hseg n).1, word_wrap _ (hseg n).1]

theorem ids42 (n : Fin 16384) : seg n < 2 ^ 31 ∧ val_main_v42 (F := Ideal) ids (ix2 n 0) = BitVec.ofNat 32 (seg n) := by
  refine ⟨(hseg n).1, ?_⟩
  pointwise [val_main_v42]
  exact (hseg n).2

theorem ids61 (n : Fin 16384) : seg n < 2 ^ 31 ∧ val_main_v61 (F := Ideal) ids (ix2 n 0) = BitVec.ofNat 32 (seg n) := by
  refine ⟨(hseg n).1, ?_⟩
  pointwise [val_main_v61, val_main_v60, val_main_v57, val_main_v59, val_main_v56, val_main_v58, val_main_c_13, val_main_c_14]
  rw [(hseg n).2, word_wrap _ (hseg n).1]

theorem ids68 (n : Fin 16384) : seg n < 2 ^ 31 ∧ val_main_v68 (F := Ideal) ids (ix2 n 0) = BitVec.ofNat 32 (seg n) := by
  refine ⟨(hseg n).1, ?_⟩
  pointwise [val_main_v68]
  exact (hseg n).2

/-- The number of rows of a fragment. -/
theorem count_at (g : Fin 256) : val_main_v40 (F := Ideal) ids (ix1 g) = rowCount seg g :=
  scatter_count (val_main_v37 (F := Ideal) ids) seg (ids37 ids seg hseg) _ (fun _ => by pointwise [val_main_v30, val_main_c_4]) _
    (fun _ => by pointwise [val_main_v38, val_main_c_8]) g

/-- The sum of the features of a fragment. -/
theorem segSum_at (g : Fin 256) (j : Fin 512) :
    val_main_v43 (F := Ideal) x ids γ β W b (ix2 g j) = segSum seg (fun n => refFeat x γ β W b n j) g := by
  refine (scatterAdd_matrix (val_main_v42 (F := Ideal) ids) seg (ids42 ids seg hseg) _ ?_ _ g j).trans ?_
  · intro g j
    pointwise [val_main_v41, val_main_cst_9]
  · simp only [feat_at]
    rfl

/-- The mean feature vector of a fragment. -/
theorem groupMean_at (g : Fin 256) (j : Fin 512) :
    val_main_v47 (F := Ideal) x ids γ β W b (ix2 g j) = groupMean (refFeat x γ β W b) seg g j := by
  pointwise [val_main_v47, val_main_v46, val_main_v45, val_main_v44, val_main_call2_v1, val_main_call2_v0, val_main_cst_10]
  rw [segSum_at x ids γ β W b seg hseg, count_at ids seg hseg]
  rw [show id (constant (F := Ideal) S_ FTy.f32 1065353216#32) ix0 = 1 from word_one]
  rfl

/-- The direction of a fragment's mean feature vector. -/
theorem groupDir_at (g : Fin 256) (j : Fin 512) :
    val_main_v55 (F := Ideal) x ids γ β W b (ix2 g j) = dir (groupMean (refFeat x γ β W b) seg g) j := by
  pointwise [val_main_v55, val_main_v54, val_main_v53, val_main_v52, val_main_call6_v1, val_main_call6_v0, val_main_cst_12,
    val_main_call5_v2, val_main_call5_v1, val_main_call5_v0, val_main_call5_cst]
  simp only [groupMean_at x ids γ β W b seg hseg]
  rw [show id (constant (F := Ideal) S_ FTy.f32 730643660#32) ix0 = (tinyR : EReal) from word_tiny, max_comm]
  rfl

omit hseg in
/-- The direction of a row's features. -/
theorem rowDir_at (n : Fin 16384) (j : Fin 512) :
    val_main_v51 (F := Ideal) x γ β W b (ix2 n j) = dir (refFeat x γ β W b n) j := by
  pointwise [val_main_v51, val_main_v50, val_main_v49, val_main_v48, val_main_call4_v1, val_main_call4_v0, val_main_cst_11,
    val_main_call3_v2, val_main_call3_v1, val_main_call3_v0, val_main_call3_cst]
  simp only [feat_at]
  rw [show id (constant (F := Ideal) S_ FTy.f32 730643660#32) ix0 = (tinyR : EReal) from word_tiny, max_comm]
  rfl

/-- What a row reads of its own fragment. -/
theorem ownDir_at (n : Fin 16384) (j : Fin 512) (g : Fin 256) (hg : seg n = g.val) :
    val_main_v62 (F := Ideal) x ids γ β W b (ix2 n j) = dir (groupMean (refFeat x γ β W b) seg g) j :=
  (gather_rows (val_main_v61 (F := Ideal) ids) seg (ids61 ids seg hseg) _ n j g hg).trans (groupDir_at x ids γ β W b seg hseg g j)

/-- A row's deviation from its fragment. -/
theorem deviation_at (n : Fin 16384) (g : Fin 256) (hg : seg n = g.val) :
    val_main_v66 (F := Ideal) x ids γ β W b (ix1 n) = deviation (refFeat x γ β W b) seg g n := by
  pointwise [val_main_v66, val_main_v65, val_main_cst_16, val_main_v64, val_main_cst_15, val_main_v63]
  simp only [rowDir_at, ownDir_at x ids γ β W b seg hseg n _ g hg]
  rfl

/-- The deviations of a fragment, added up. -/
theorem deviations_at (g : Fin 256) :
    val_main_v69 (F := Ideal) x ids γ β W b (ix1 g) = segSum seg (deviation (refFeat x γ β W b) seg g) g := by
  refine (scatterAdd_vector (val_main_v68 (F := Ideal) ids) seg (ids68 ids seg hseg) _ ?_ _ g).trans ?_
  · intro g
    pointwise [val_main_v67, val_main_cst_17]
  · refine Finset.sum_congr rfl fun n _ => ?_
    by_cases h : seg n = g.val
    · rw [if_pos h, if_pos h]
      exact deviation_at x ids γ β W b seg hseg n g h
    · rw [if_neg h, if_neg h]

/-- A fragment counts when it has three rows or more. -/
theorem kept_at (g : Fin 256) : val_main_v74 (F := Ideal) ids (ix1 g) = kept seg g := by
  pointwise [val_main_v74, val_main_v73, val_main_v72, val_main_cst_19]
  rw [count_at ids seg hseg]
  rw [word_three, bit_unsigned]
  rfl

end Cert.Fragments
-- ==== Proof.Pre.lean ====
/- What the precondition says: no id is negative, and every fragment has at most one row, or a mean feature
   vector that is zero or is not shorter than the floor of the norms. -/
module

public import proofs.«01_k».proof.Pre_fragments_ok
public import proofs.«01_k».proof.Proof.Gen.Pre_fragments_ok
public import proofs.«01_k».proof.Proof.RefGroups
public import Idealize.ShloMosaic.Lib.ReduceAll

@[expose] public section

set_option maxRecDepth 16384

noncomputable section

namespace Cert.Fragments

open Idealize.ShloMosaic Idealize.ShloMosaic.TcCoe Idealize.ShloMosaic.Tactic
open Cert.ReferenceIdeal Cert.ReferenceIdeal.Read

instance : Cert.Pre_fragments_ok.Facts := Cert.Pre_fragments_ok.Gen.facts

variable (x x1 : (⟨S16384x512, .f32⟩ : BufTy).Contents (Elt Ideal))
  (x2 x3 : FVec Ideal Cert.Pre_fragments_ok.S16384x64x3 .f32)
  (ids : (⟨S16384, .i32⟩ : BufTy).Contents (Elt Ideal))
  (γ β : (⟨S512, .f32⟩ : BufTy).Contents (Elt Ideal))
  (W : (⟨S512x512, .f32⟩ : BufTy).Contents (Elt Ideal)) (b : (⟨S512, .f32⟩ : BufTy).Contents (Elt Ideal))

/-- The test that an id is at least zero. -/
def idsTest : IVec Cert.Pre_fragments_ok.S16384 1 :=
  cmpi .sge ids (broadcastInDim Cert.Pre_fragments_ok.S16384 ![] Cert.Pre_fragments_ok.Facts.bcast_S_S16384 (constantI Cert.Pre_fragments_ok.S_ 32 0#32))

/-- The precondition, over the reference's counts and mean vectors. -/
theorem pre_unfold : Cert.Pre_fragments_ok.fn (F := Ideal) x x1 x2 x3 ids γ β W b
    = Cert.Pre_fragments_ok.fn_part3 (F := Ideal) (Cert.Pre_fragments_ok.fn_norm (F := Ideal) (val_main_v47 (F := Ideal) x ids γ β W b))
        (Host.reduce IntOp.andi (idsTest ids) (constantI Cert.Pre_fragments_ok.S_ 1 1#1) Cert.Pre_fragments_ok.Facts.reducesTo_S16384_S_d0
          Cert.Pre_fragments_ok.Facts.h_S_)
        (cmpf .ole (val_main_v40 (F := Ideal) ids) (broadcastInDim Cert.Pre_fragments_ok.S256 ![] Cert.Pre_fragments_ok.Facts.bcast_S_S256
          (constant (F := Ideal) Cert.Pre_fragments_ok.S_ .f32 0x3F800000#32)))
        (broadcastInDim Cert.Pre_fragments_ok.S256 ![] Cert.Pre_fragments_ok.Facts.bcast_S_S256
          (constant (F := Ideal) Cert.Pre_fragments_ok.S_ .f32 0x00000000#32)) := rfl

/-- A truth value's word is one when it holds. -/
theorem of_bit {p : Prop} [Decidable p] (h : BitVec.ofBool (decide p) = 1#1) : p := by
  by_contra k
  rw [decide_eq_false k] at h
  exact absurd h (by decide)

/-- Of two bits whose `or` is one, one is one. -/
theorem of_ori {a b : BitVec 1} (h : IntOp.ori a b = 1#1) : a = 1#1 ∨ b = 1#1 := by
  revert a b
  decide

theorem sub_scalar : Subsingleton Cert.Pre_fragments_ok.S_.Idx := ⟨fun _ _ => funext fun a => a.elim0⟩

variable (hpre : Cert.Pre_fragments_ok.fn (F := Ideal) x x1 x2 x3 ids γ β W b = fun _ => 1#1)

include hpre

/-- No id is negative: it is the word of a small number. -/
theorem pre_ids (n : Fin 16384) : ∃ a : ℕ, a < 2 ^ 31 ∧ ids (ix1 n) = BitVec.ofNat 32 a := by
  have h := congrFun hpre ix0
  rw [pre_unfold] at h
  have h1 := (IntOp.andi_eq_one.1 h).1
  have := sub_scalar
  have h2 : IntOp.cmpi .sge (ids (ix1 n)) 0#32 = 1#1 := Host.reduce_andi_all _ _ _ _ _ h1 (ix1 n)
  have h3 := of_bit ((WordCmp.cmpi_sge_eq _ _).symm.trans h2)
  have e0 : (0#32 : BitVec 32).toInt = 0 := by decide
  rw [e0] at h3
  have hlt : (ids (ix1 n)).toInt < 2 ^ 31 := BitVec.toInt_lt
  refine ⟨(ids (ix1 n)).toInt.toNat, by omega, BitVec.eq_of_toInt_eq ?_⟩
  rw [small_toInt _ (by omega)]
  omega

/-- Every fragment has at most one row, or a mean feature vector that is zero or not too short. -/
theorem pre_groups (seg : Fin 16384 → ℕ) (hseg : ∀ n, seg n < 2 ^ 31 ∧ ids (ix1 n) = BitVec.ofNat 32 (seg n)) (g : Fin 256) :
    rowCount seg g ≤ 1 ∨ norm (groupMean (refFeat x γ β W b) seg g) = 0
      ∨ (tinyR : EReal) ≤ norm (groupMean (refFeat x γ β W b) seg g) := by
  have h := congrFun hpre ix0
  rw [pre_unfold] at h
  have h1 := (IntOp.andi_eq_one.1 h).2
  have := sub_scalar
  have h2 := Host.reduce_andi_all _ _ _ _ _ h1 (ix1 g)
  have hn : Cert.Pre_fragments_ok.fn_norm (F := Ideal) (val_main_v47 (F := Ideal) x ids γ β W b) (ix1 g)
      = norm (groupMean (refFeat x γ β W b) seg g) := by
    pointwise [Cert.Pre_fragments_ok.fn_norm]
    simp only [groupMean_at x ids γ β W b seg hseg]
    rfl
  have h3 : IntOp.ori (IntOp.ori
        (BitVec.ofBool (decide (val_main_v40 (F := Ideal) ids (ix1 g) ≤ Ideal.ofBits .f32 0x3F800000#32)))
        (BitVec.ofBool (decide (Cert.Pre_fragments_ok.fn_norm (F := Ideal) (val_main_v47 (F := Ideal) x ids γ β W b) (ix1 g)
          = Ideal.ofBits .f32 0x00000000#32))))
      (BitVec.ofBool (decide (Ideal.ofBits .f32 0x2B8CBCCC#32
        ≤ Cert.Pre_fragments_ok.fn_norm (F := Ideal) (val_main_v47 (F := Ideal) x ids γ β W b) (ix1 g)))) = 1#1 := h2
  rw [hn, count_at ids seg hseg, word_zero, word_one, word_tiny] at h3
  rcases of_ori h3 with h4 | h4
  · rcases of_ori h4 with h5 | h5
    · exact Or.inl (of_bit h5)
    · exact Or.inr (Or.inl (of_bit h5))
  · exact Or.inr (Or.inr (of_bit h4))

end Cert.Fragments
-- ==== Proof.RefValue.lean ====
/- The reference's result: the loss of the rows' features and fragments. -/
module

public import proofs.«01_k».proof.Proof.RefGroups

@[expose] public section

set_option maxRecDepth 16384

noncomputable section

namespace Cert.Fragments

open Idealize.ShloMosaic Idealize.ShloMosaic.TcCoe Idealize.ShloMosaic.Tactic
open Cert.ReferenceIdeal Cert.ReferenceIdeal.Read

variable (x : (⟨S16384x512, .f32⟩ : BufTy).Contents (Elt Ideal)) (ids : (⟨S16384, .i32⟩ : BufTy).Contents (Elt Ideal))
  (γ β : (⟨S512, .f32⟩ : BufTy).Contents (Elt Ideal))
  (W : (⟨S512x512, .f32⟩ : BufTy).Contents (Elt Ideal)) (b : (⟨S512, .f32⟩ : BufTy).Contents (Elt Ideal))
  (seg : Fin 16384 → ℕ) (hseg : ∀ n, seg n < 2 ^ 31 ∧ ids (ix1 n) = BitVec.ofNat 32 (seg n))

/-- The words of two fragments agree when the fragments do. -/
theorem words_eq (g h : Fin 256) :
    IntOp.cmpi .eq (BitVec.ofNat 32 g.val) (BitVec.ofNat 32 h.val) = BitVec.ofBool (decide (g = h)) := by
  have e : (BitVec.ofNat 32 g.val = BitVec.ofNat 32 h.val) ↔ g = h := by
    constructor
    · intro k
      have := congrArg BitVec.toInt k
      rw [word_toInt, word_toInt] at this
      exact Fin.ext (by exact_mod_cast this)
    · rintro rfl; rfl
  unfold IntOp.cmpi
  refine congrArg BitVec.ofBool ?_
  by_cases k : g = h
  · rw [decide_eq_true k, k]; exact beq_self_eq_true _
  · rw [decide_eq_false k]; exact beq_eq_false_iff_ne.2 fun q => k (e.1 q)

/-- Different fragments are marked with one, a fragment and itself with zero. -/
theorem distinct_at (g h : Fin 256) : val_main_v112 (F := Ideal) (ix2 g h) = distinct g h := by
  pointwise [val_main_v112, val_main_v105, val_main_cst_31, val_main_v111, val_main_v110, val_main_v109, val_main_v108, val_main_c_32,
    val_main_v107, val_main_v106]
  rw [show IntOp.addi (BitVec.ofNat 32 g.val) 0#32 = BitVec.ofNat 32 g.val from BitVec.add_zero _, words_eq, bit_unsigned]
  rfl

include hseg

/-- The mean vectors that the interfragment term works from are those of the consistency term. -/
theorem groupDir_again (g : Fin 256) (j : Fin 512) :
    val_main_v102 (F := Ideal) x ids γ β W b (ix2 g j) = dir (groupMean (refFeat x γ β W b) seg g) j :=
  groupDir_at x ids γ β W b seg hseg g j

/-- The product of two fragments' directions. -/
theorem product_at (g h : Fin 256) : val_main_v104 (F := Ideal) x ids γ β W b (ix2 g h)
    = ∑ j, dir (groupMean (refFeat x γ β W b) seg g) j * dir (groupMean (refFeat x γ β W b) seg h) j := by
  pointwise [val_main_v104, val_main_v103]
  simp only [groupDir_again x ids γ β W b seg hseg]

/-- The interfragment term. -/
theorem inter_at : val_main_v117 (F := Ideal) x ids γ β W b ix0 = refInter (refFeat x γ β W b) seg := by
  have z : FloatOps.ofBits (F := Ideal) .f32 0x00000000#32 = 0 := word_zero
  have e : FloatOps.ofBits (F := Ideal) .f32 0x358637BD#32 = ((8796093 / 8796093022208 : ℝ) : EReal) := word_micro
  rw [val_main_v117_apply, val_main_v116_apply, val_main_v115_apply, val_main_v114_apply, val_main_cst_33_apply, val_main_cst_34_apply,
    val_main_cst_35_apply, sum_idx2, sum_idx2, z, zero_add, zero_add, e]
  simp only [val_main_v113_apply, product_at x ids γ β W b seg hseg, distinct_at]
  rfl

/-- The consistency term. -/
theorem consistency_at : val_main_v80 (F := Ideal) x ids γ β W b ix0 = refConsistency (refFeat x γ β W b) seg := by
  pointwise [val_main_v80, val_main_v79, val_main_v78, val_main_v77, val_main_v76, val_main_v75, val_main_v71, val_main_v70,
    val_main_call8_v0, val_main_call7_v1, val_main_call7_v0, val_main_cst_18, val_main_cst_20, val_main_cst_21, val_main_cst_22]
  simp only [deviations_at x ids γ β W b seg hseg, count_at ids seg hseg, kept_at ids seg hseg]
  simp only [show id (constant (F := Ideal) S_ FTy.f32 1065353216#32) ix0 = 1 from word_one,
    show id (constant (F := Ideal) S_ FTy.f32 730643660#32) ix0 = (tinyR : EReal) from word_tiny]
  rfl

/-- The loss. -/
theorem loss_at : val_main_v122 (F := Ideal) x ids γ β W b ix0 = refLoss (refFeat x γ β W b) seg := by
  rw [val_main_v122_apply, val_main_v121_apply, val_main_v120_apply, val_main_v119_apply, val_main_v118_apply, val_main_cst_36_apply,
    val_main_cst_37_apply, val_main_cst_38_apply, val_main_cst_39_apply, inter_at x ids γ β W b seg hseg,
    consistency_at x ids γ β W b seg hseg]
  have e0 : FloatOps.ofBits (F := Ideal) .f32 0x00000000#32 = 0 := word_zero
  have e1 : FloatOps.ofBits (F := Ideal) .f32 0x3E4CCCCD#32 = (weightR : EReal) := word_weight
  have e2 : FloatOps.ofBits (F := Ideal) .f32 0x3CF5C28F#32 = ((16106127 / 536870912 : ℝ) : EReal) := word_loss
  have e3 : FloatOps.ofBits (F := Ideal) .f32 0x3D4CCCCD#32 = ((13421773 / 268435456 : ℝ) : EReal) := word_aux
  rw [e0, e1, e2, e3]
  rfl

end Cert.Fragments
-- ==== Proof.KernelSteps.lean ====
/- What one grid point of the kernel leaves in its three running sums, and what the last one stores, as applications of
   the kernel body's own stored terms. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Fragments

open Idealize.ShloMosaic Idealize.ShloMosaic.TcCoe Idealize.ShloMosaic.Tactic
open Idealize.SL Idealize.SL.Sem
open Cert.KernelIdeal Cert.KernelIdeal.Gen

variable {F : FTy → Type} [FloatOps F] [Named F]
variable (m : (ℓ : Loc nD τ sig) → Buf (Elt F) ℓ)

/-- The features of the rows of block `t`. -/
def blockFeats (c : Dev nD) (t : Fin cfg0.N) : FVec F S2048x512 .f32 :=
  k0_pay8 (iblk m c 1 t) (iblk m c 2 t) (iblk m c 3 t) (iblk m c 4 t) (iblk m c 5 t)

/-- The first point starts the sum of the features from zero. -/
theorem feats_first (c : Dev nD) (t : Fin cfg0.N) (h0 : t.val % 8 = 0) :
    (outsAt0 m c t.val t.isLt).2.1 = k0_pay10 (blockFeats m c t) (iblk m c 0 t) k0_pay5 := by
  rw [outsAt0_A m c t h0 (by omega)]
  frame_out
  rfl

/-- Every later point adds its block to the sum of the features. -/
theorem feats_later (c : Dev nD) (t : Fin cfg0.N) (h0 : ¬t.val % 8 = 0) :
    (outsAt0 m c t.val t.isLt).2.1
      = k0_pay10 (blockFeats m c t) (iblk m c 0 t) (outsAt0 m c (t.val - 1) (Nat.lt_of_le_of_lt (Nat.sub_le _ _) t.isLt)).2.1 := by
  by_cases h1 : t.val % 8 = 7
  · rw [outsAt0_C m c t h0 h1]
    frame_out
    simp only [read_unread_whole]
    rfl
  · rw [outsAt0_B m c t h0 h1]
    frame_out
    simp only [read_unread_whole]
    rfl

/-- The first point starts the sum of the normalized features from zero. -/
theorem dirs_first (c : Dev nD) (t : Fin cfg0.N) (h0 : t.val % 8 = 0) :
    (outsAt0 m c t.val t.isLt).2.2.1 = k0_pay11 (blockFeats m c t) (iblk m c 0 t) k0_pay6 := by
  rw [outsAt0_A m c t h0 (by omega)]
  frame_out
  rfl

/-- Every later point adds its block to the sum of the normalized features. -/
theorem dirs_later (c : Dev nD) (t : Fin cfg0.N) (h0 : ¬t.val % 8 = 0) :
    (outsAt0 m c t.val t.isLt).2.2.1
      = k0_pay11 (blockFeats m c t) (iblk m c 0 t) (outsAt0 m c (t.val - 1) (Nat.lt_of_le_of_lt (Nat.sub_le _ _) t.isLt)).2.2.1 := by
  by_cases h1 : t.val % 8 = 7
  · rw [outsAt0_C m c t h0 h1]
    frame_out
    simp only [read_unread_whole]
    rfl
  · rw [outsAt0_B m c t h0 h1]
    frame_out
    simp only [read_unread_whole]
    rfl

/-- The first point starts the row count from zero. -/
theorem rows_first (c : Dev nD) (t : Fin cfg0.N) (h0 : t.val % 8 = 0) :
    (outsAt0 m c t.val t.isLt).2.2.2 = k0_pay12 (iblk m c 0 t) k0_pay7 := by
  rw [outsAt0_A m c t h0 (by omega)]
  frame_out

/-- Every later point adds its block to the row count. -/
theorem rows_later (c : Dev nD) (t : Fin cfg0.N) (h0 : ¬t.val % 8 = 0) :
    (outsAt0 m c t.val t.isLt).2.2.2
      = k0_pay12 (iblk m c 0 t) (outsAt0 m c (t.val - 1) (Nat.lt_of_le_of_lt (Nat.sub_le _ _) t.isLt)).2.2.2 := by
  by_cases h1 : t.val % 8 = 7
  · rw [outsAt0_C m c t h0 h1]
    frame_out
    simp only [read_unread_whole]
  · rw [outsAt0_B m c t h0 h1]
    frame_out
    simp only [read_unread_whole]

/-- The last point stores the loss of the three sums that it leaves. -/
theorem loss_last (c : Dev nD) (t : Fin cfg0.N) (h1 : t.val % 8 = 7) :
    (outsAt0 m c t.val t.isLt).1
      = k0_pay1 (k0_pay3 (outsAt0 m c t.val t.isLt).2.1 (outsAt0 m c t.val t.isLt).2.2.1 (outsAt0 m c t.val t.isLt).2.2.2)
          (k0_pay4 (outsAt0 m c t.val t.isLt).2.1) := by
  rw [feats_later m c t (by omega), dirs_later m c t (by omega), rows_later m c t (by omega), outsAt0_C m c t (by omega) h1]
  frame_out
  simp only [read_unread_whole]
  rfl

end Cert.Fragments
-- ==== Proof.Payloads.lean ====
/- The kernel's block computations entry by entry: a block's features, the marks of the rows of each fragment, the three
   running sums' updates, and the loss from the three sums. -/
module

public import proofs.«01_k».proof.Proof.KernelSteps
public import proofs.«01_k».proof.Proof.Features
public import proofs.«01_k».proof.Proof.Loss
public import Idealize.ShloMosaic.Lib.Pointwise

@[expose] public section

set_option maxRecDepth 16384

noncomputable section

namespace Cert.Fragments

open Idealize.ShloMosaic Idealize.ShloMosaic.TcCoe Idealize.ShloMosaic.Tactic
open Idealize.SL Idealize.SL.Sem
open Cert.KernelIdeal Cert.KernelIdeal.Gen

/-- One where the fragment number `i` is `g`, zero elsewhere. -/
def mark (i : BitVec 32) (g : Fin 256) : EReal := if i = BitVec.ofNat 32 g.val then 1 else 0

theorem mark_mul (i : BitVec 32) (g : Fin 256) (h : EReal) :
    mark i g * h = if i = BitVec.ofNat 32 g.val then h else 0 := by
  unfold mark; split_ifs <;> simp

/-- A truth value widened to a word and read as a number. -/
theorem bit_number (p : Prop) [Decidable p] :
    FloatOps.sitofp (F := Ideal) FTy.f32 (BitVec.setWidth 32 (BitVec.ofBool (decide p))) = if p then (1 : EReal) else 0 := by
  by_cases h : p
  · simp only [h, decide_true, if_true]
    have e : (BitVec.setWidth 32 (BitVec.ofBool true)).toInt = 1 := by decide
    show (((BitVec.setWidth 32 (BitVec.ofBool true)).toInt : ℝ) : EReal) = 1
    rw [e]; norm_num
  · simp only [h, decide_false, if_false]
    have e : (BitVec.setWidth 32 (BitVec.ofBool false)).toInt = 0 := by decide
    show (((BitVec.setWidth 32 (BitVec.ofBool false)).toInt : ℝ) : EReal) = 0
    rw [e]; norm_num

theorem pay8_at (x : Vec Ideal S2048x512 .f32) (γ β : Vec Ideal S1x512 .f32) (W : Vec Ideal S512x512 .f32)
    (b : Vec Ideal S1x512 .f32) (r : Fin 2048) (j : Fin 512) :
    k0_pay8 x γ β W b (ix2 r j) = feat (fun k => x (ix2 r k)) (fun k => γ (ix2 0 k)) (fun k => β (ix2 0 k))
      (fun j k => W (ix2 j k)) (fun j => b (ix2 0 j)) j := by
  pointwise [k0_pay8]
  simp only [word_width, word_lnEps]
  rfl

theorem pay9_at (ids : Vec Ideal S1x1x2048 .i32) (g : Fin 256) (r : Fin 2048) :
    k0_pay9 (F := Ideal) ids (ix2 g r) = mark (ids (ix3 0 0 r)) g := by
  pointwise [k0_pay9]
  unfold mark
  have e : IntOp.cmpi .eq (BitVec.ofNat 32 g.val) (ids (ix3 0 0 r))
      = BitVec.ofBool (decide (ids (ix3 0 0 r) = BitVec.ofNat 32 g.val)) := by
    by_cases h : ids (ix3 0 0 r) = BitVec.ofNat 32 g.val
    · rw [h]; simp [IntOp.cmpi]
    · have h' : ¬ BitVec.ofNat 32 g.val = ids (ix3 0 0 r) := fun k => h k.symm
      have hb : (BitVec.ofNat 32 g.val == ids (ix3 0 0 r)) = false := beq_eq_false_iff_ne.2 h'
      simp [IntOp.cmpi, h, hb]
  rw [e, bit_number]

theorem pay10_at (f : FVec Ideal S2048x512 .f32) (ids : Vec Ideal S1x1x2048 .i32) (a : Vec Ideal S256x512 .f32)
    (g : Fin 256) (j : Fin 512) :
    k0_pay10 f ids a (ix2 g j) = a (ix2 g j) + ∑ r, mark (ids (ix3 0 0 r)) g * f (ix2 r j) := by
  pointwise [k0_pay10]
  simp only [pay9_at]

theorem pay11_at (f : FVec Ideal S2048x512 .f32) (ids : Vec Ideal S1x1x2048 .i32) (a : Vec Ideal S256x512 .f32)
    (g : Fin 256) (j : Fin 512) :
    k0_pay11 f ids a (ix2 g j)
      = a (ix2 g j) + ∑ r, mark (ids (ix3 0 0 r)) g * dir (fun k => f (ix2 r k)) j := by
  pointwise [k0_pay11]
  simp only [pay9_at, word_tiny]
  rfl

theorem pay12_at (ids : Vec Ideal S1x1x2048 .i32) (a : Vec Ideal S256x1 .f32) (g : Fin 256) :
    k0_pay12 ids a (ix2 g 0) = a (ix2 g 0) + ∑ r, mark (ids (ix3 0 0 r)) g := by
  pointwise [k0_pay12]
  simp only [pay9_at]

theorem pay5_at (g : Fin 256) (j : Fin 512) : k0_pay5 (F := Ideal) (ix2 g j) = 0 := by
  pointwise [k0_pay5]

theorem pay6_at (g : Fin 256) (j : Fin 512) : k0_pay6 (F := Ideal) (ix2 g j) = 0 := by
  pointwise [k0_pay6]

theorem pay7_at (g : Fin 256) : k0_pay7 (F := Ideal) (ix2 g 0) = 0 := by
  pointwise [k0_pay7]

theorem pay2_at (s : Vec Ideal S256x512 .f32) (g : Fin 256) (j : Fin 512) :
    k0_pay2 (F := Ideal) s (ix2 g j) = dir (fun k => s (ix2 g k)) j := by
  pointwise [k0_pay2]
  simp only [word_tiny]
  rfl

theorem pay3_at (s d : Vec Ideal S256x512 .f32) (n : Vec Ideal S256x1 .f32) :
    k0_pay3 (F := Ideal) s d n = Ideal.div
      (∑ g : Fin 256, (if 3 ≤ n (ix2 g 0) then (1 : EReal) else 0)
        * (n (ix2 g 0) - ∑ j, d (ix2 g j) * dir (fun k => s (ix2 g k)) j))
      (max (∑ g : Fin 256, (if 3 ≤ n (ix2 g 0) then (1 : EReal) else 0) * n (ix2 g 0)) (tinyR : EReal)) := by
  pointwise [k0_pay3]
  simp only [pay2_at, word_tiny, word_three, bit_number, Fin.sum_univ_one]
  rfl

theorem pay4_at (s : Vec Ideal S256x512 .f32) :
    k0_pay4 (F := Ideal) s = (∑ j : Fin 512, (∑ g : Fin 256, dir (fun k => s (ix2 g k)) j)
        * ∑ g : Fin 256, dir (fun k => s (ix2 g k)) j)
      - ∑ g : Fin 256, ∑ j : Fin 512, dir (fun k => s (ix2 g k)) j * dir (fun k => s (ix2 g k)) j := by
  pointwise [k0_pay4]
  simp only [pay2_at, Fin.sum_univ_one]

theorem pay1_at (v w : EReal) :
    k0_pay1 (F := Ideal) v w (ix2 0 0)
      = (scaleR : EReal) * (v + (weightR : EReal) * Ideal.div w (pairsR : EReal)) := by
  pointwise [k0_pay1]
  rw [name_scale, name_pairs, word_weight]

end Cert.Fragments

end
-- ==== Proof.KernelBlocks.lean ====
/- The blocks that the kernel's grid points work on, read off the arguments: point `t` has rows `2048 * t` to
   `2048 * t + 2047` of the features and of the fragment numbers, and all of the parameters. -/
module

public import proofs.«01_k».proof.Proof.Payloads
public import Idealize.ShloMosaic.Lib.StableHlo.ReadAt

@[expose] public section

set_option maxRecDepth 16384

noncomputable section

namespace Cert.Fragments

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ)

theorem row_lt (t : Fin cfg0.N) (r : Fin 2048) : t.val * 2048 + r.val < 16384 := by
  have h : t.val < 8 := t.isLt
  have := r.isLt
  omega

/-- Row `r` of block `t` among all rows. -/
def blockRow (t : Fin cfg0.N) (r : Fin 2048) : Fin 16384 := ⟨t.val * 2048 + r.val, row_lt t r⟩

theorem index0 : ∀ t, win0_0.index t = ![t.val, 0, 0] := by decide +kernel
theorem index1 : ∀ t, win0_1.index t = ![t.val, 0] := by decide +kernel
theorem index2 : ∀ t, win0_2.index t = ![0, 0] := by decide +kernel
theorem index3 : ∀ t, win0_3.index t = ![0, 0] := by decide +kernel
theorem index4 : ∀ t, win0_4.index t = ![0, 0] := by decide +kernel
theorem index5 : ∀ t, win0_5.index t = ![0, 0] := by decide +kernel

/-- The fragment numbers as the host lays them out, block by block. -/
theorem ids_array (c : Dev nD) (t : Fin cfg0.N) (r : Fin 2048) :
    V m c main_v0 (ix3 (⟨t.val, t.isLt⟩ : Fin 8) 0 r) = m ((c : Thread nD τ).loc main_arg4) (ix1 (blockRow t r)) := by
  unfold V
  after_reads_at
  pointwise
  rfl

theorem ids_block (c : Dev nD) (t : Fin cfg0.N) (r : Fin 2048) :
    iblk m c 0 t (ix3 0 0 r) = m ((c : Thread nD τ).loc main_arg4) (ix1 (blockRow t r)) := by
  rw [← ids_array m c t r]
  blk_ext [iblk, index0 t]

theorem rows_block (c : Dev nD) (t : Fin cfg0.N) (r : Fin 2048) (k : Fin 512) :
    iblk m c 1 t (ix2 r k) = m ((c : Thread nD τ).loc main_arg0) (ix2 (blockRow t r) k) := by
  blk_ext [iblk, V_main_arg0, index1 t]
  rfl

theorem scale_array (c : Dev nD) (k : Fin 512) :
    V m c main_v1 (ix2 0 k) = m ((c : Thread nD τ).loc main_arg5) (ix1 k) := by
  unfold V
  after_reads_at

theorem scale_block (c : Dev nD) (t : Fin cfg0.N) (k : Fin 512) :
    iblk m c 2 t (ix2 0 k) = m ((c : Thread nD τ).loc main_arg5) (ix1 k) := by
  rw [← scale_array m c k]
  blk_ext [iblk, index2 t]

theorem shift_array (c : Dev nD) (k : Fin 512) :
    V m c main_v2 (ix2 0 k) = m ((c : Thread nD τ).loc main_arg6) (ix1 k) := by
  unfold V
  after_reads_at

theorem shift_block (c : Dev nD) (t : Fin cfg0.N) (k : Fin 512) :
    iblk m c 3 t (ix2 0 k) = m ((c : Thread nD τ).loc main_arg6) (ix1 k) := by
  rw [← shift_array m c k]
  blk_ext [iblk, index3 t]

theorem weight_block (c : Dev nD) (t : Fin cfg0.N) (j k : Fin 512) :
    iblk m c 4 t (ix2 j k) = m ((c : Thread nD τ).loc main_arg7) (ix2 j k) := by
  blk_ext [iblk, V_main_arg7, index4 t]

theorem bias_array (c : Dev nD) (k : Fin 512) :
    V m c main_v3 (ix2 0 k) = m ((c : Thread nD τ).loc main_arg8) (ix1 k) := by
  unfold V
  after_reads_at

theorem bias_block (c : Dev nD) (t : Fin cfg0.N) (k : Fin 512) :
    iblk m c 5 t (ix2 0 k) = m ((c : Thread nD τ).loc main_arg8) (ix1 k) := by
  rw [← bias_array m c k]
  blk_ext [iblk, index5 t]

/-- The fragment number of row `n`. -/
def rowId (c : Dev nD) (n : Fin 16384) : BitVec 32 := m ((c : Thread nD τ).loc main_arg4) (ix1 n)

/-- The features of row `n`. -/
def rowFeat (c : Dev nD) (n : Fin 16384) (j : Fin 512) : EReal :=
  feat (fun k => m ((c : Thread nD τ).loc main_arg0) (ix2 n k)) (fun k => m ((c : Thread nD τ).loc main_arg5) (ix1 k))
    (fun k => m ((c : Thread nD τ).loc main_arg6) (ix1 k)) (fun j k => m ((c : Thread nD τ).loc main_arg7) (ix2 j k))
    (fun j => m ((c : Thread nD τ).loc main_arg8) (ix1 j)) j

/-- The features that point `t` computes are those of its rows. -/
theorem blockFeats_at (c : Dev nD) (t : Fin cfg0.N) (r : Fin 2048) (j : Fin 512) :
    blockFeats m c t (ix2 r j) = rowFeat m c (blockRow t r) j := by
  unfold blockFeats rowFeat
  rw [pay8_at]
  simp only [rows_block, scale_block, shift_block, weight_block, bias_block]

end Cert.Fragments

end
-- ==== Proof.KernelSums.lean ====
/- The three running sums after the last grid point: over all rows of each fragment, the features, their directions and
   the number one. -/
module

public import proofs.«01_k».proof.Proof.KernelBlocks

@[expose] public section

set_option maxRecDepth 16384

noncomputable section

namespace Cert.Fragments

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ)

/-- The sum of `h` over the rows whose fragment number is `g`. -/
def idSum (c : Dev nD) (h : Fin 16384 → EReal) (g : Fin 256) : EReal := ∑ n, mark (rowId m c n) g * h n

/-- Summing block by block is summing over all rows. -/
theorem sum_blocks (h : Fin 16384 → EReal) :
    (∑ t : Fin cfg0.N, ∑ r : Fin 2048, h (blockRow t r)) = ∑ n, h n :=
  Fin.sum_mul_add_fin (n := 2048) (L := 16384) 8 h

theorem feats_sum (c : Dev nD) (g : Fin 256) (j : Fin 512) :
    (outsAt0 m c t0_7.val t0_7.isLt).2.1 (ix2 g j) = idSum m c (fun n => rowFeat m c n j) g := by
  have h := Pipeline.eq_sum_fin_of_reset_step_apply_last (N := cfg0.N) (ι := Fin 256 × Fin 512)
    (fun n h p => (outsAt0 m c n h).2.1 (ix2 p.1 p.2)) 8 (fun _ => 0)
    (fun t p => ∑ r, mark (rowId m c (blockRow t r)) p.1 * rowFeat m c (blockRow t r) p.2)
    (fun t h0 p => by
      rw [feats_first m c t h0, pay10_at, pay5_at]
      simp only [ids_block, blockFeats_at]; rfl)
    (fun t h0 p => by
      rw [feats_later m c t h0, pay10_at]
      simp only [ids_block, blockFeats_at]; rfl)
    (le_of_eq N_0) t0_7 rfl (g, j)
  dsimp only at h
  rw [h, zero_add]
  exact sum_blocks fun n => mark (rowId m c n) g * rowFeat m c n j

theorem dirs_sum (c : Dev nD) (g : Fin 256) (j : Fin 512) :
    (outsAt0 m c t0_7.val t0_7.isLt).2.2.1 (ix2 g j) = idSum m c (fun n => dir (rowFeat m c n) j) g := by
  have h := Pipeline.eq_sum_fin_of_reset_step_apply_last (N := cfg0.N) (ι := Fin 256 × Fin 512)
    (fun n h p => (outsAt0 m c n h).2.2.1 (ix2 p.1 p.2)) 8 (fun _ => 0)
    (fun t p => ∑ r, mark (rowId m c (blockRow t r)) p.1 * dir (rowFeat m c (blockRow t r)) p.2)
    (fun t h0 p => by
      rw [dirs_first m c t h0, pay11_at, pay6_at]
      simp only [ids_block, blockFeats_at]; rfl)
    (fun t h0 p => by
      rw [dirs_later m c t h0, pay11_at]
      simp only [ids_block, blockFeats_at]; rfl)
    (le_of_eq N_0) t0_7 rfl (g, j)
  dsimp only at h
  rw [h, zero_add]
  exact sum_blocks fun n => mark (rowId m c n) g * dir (rowFeat m c n) j

theorem rows_sum (c : Dev nD) (g : Fin 256) :
    (outsAt0 m c t0_7.val t0_7.isLt).2.2.2 (ix2 g 0) = idSum m c (fun _ => 1) g := by
  have h := Pipeline.eq_sum_fin_of_reset_step_apply_last (N := cfg0.N) (ι := Fin 256)
    (fun n h p => (outsAt0 m c n h).2.2.2 (ix2 p 0)) 8 (fun _ => 0)
    (fun t p => ∑ r, mark (rowId m c (blockRow t r)) p)
    (fun t h0 p => by
      rw [rows_first m c t h0, pay12_at, pay7_at]
      simp only [ids_block]; rfl)
    (fun t h0 p => by
      rw [rows_later m c t h0, pay12_at]
      simp only [ids_block]; rfl)
    (le_of_eq N_0) t0_7 rfl g
  rw [h, zero_add]
  unfold idSum
  simp only [mul_one]
  exact sum_blocks fun n => mark (rowId m c n) g

end Cert.Fragments

end
-- ==== Proof.KernelValue.lean ====
/- The kernel's result: where no row's fragment number is negative, the loss of the rows' features. -/
module

public import proofs.«01_k».proof.Proof.KernelSums

@[expose] public section

set_option maxRecDepth 16384

noncomputable section

namespace Cert.Fragments

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ)

/-- A small number as a word tells the fragments apart. -/
theorem word_inj (a : ℕ) (ha : a < 2 ^ 31) (b : Fin 256) : BitVec.ofNat 32 a = BitVec.ofNat 32 b.val ↔ a = b.val := by
  constructor
  · intro h
    have h' := congrArg BitVec.toNat h
    simp only [BitVec.toNat_ofNat] at h'
    have := b.isLt
    omega
  · intro h; rw [h]

/-- The sums by fragment number are the sums by fragment. -/
theorem idSum_eq (c : Dev nD) (seg : Fin 16384 → ℕ)
    (hseg : ∀ n, seg n < 2 ^ 31 ∧ rowId m c n = BitVec.ofNat 32 (seg n))
    (h : Fin 16384 → EReal) (g : Fin 256) : idSum m c h g = segSum seg h g := by
  unfold idSum segSum
  refine Finset.sum_congr rfl fun n _ => ?_
  rw [mark_mul, (hseg n).2]
  simp only [word_inj _ (hseg n).1]

/-- The loss that the last point stores. -/
theorem loss_stored (c : Dev nD) (seg : Fin 16384 → ℕ)
    (hseg : ∀ n, seg n < 2 ^ 31 ∧ rowId m c n = BitVec.ofNat 32 (seg n)) :
    (outsAt0 m c t0_7.val t0_7.isLt).1 (ix2 0 0) = kernelLoss (rowFeat m c) seg := by
  rw [loss_last m c t0_7 rfl, pay1_at, pay3_at, pay4_at]
  simp only [feats_sum, dirs_sum, rows_sum, idSum_eq m c seg hseg]
  rfl

/-- The output array after the last point. -/
theorem loss_array (c : Dev nD) (seg : Fin 16384 → ℕ)
    (hseg : ∀ n, seg n < 2 ^ 31 ∧ rowId m c n = BitVec.ofNat 32 (seg n)) :
    (dats m 0 c).arrAt 6 cfg0.N = fun _ => kernelLoss (rowFeat m c) seg := by
  refine (dats m 0 c).arrAt_eq_of_after_last 6 t0_7 (by decide +kernel) _ fun j => ?_
  blk_simp
  rw [after0_6]
  rw [← loss_stored m c seg hseg]
  have e : j = ix2 (0 : Fin 1) (0 : Fin 1) := by
    funext a
    match a with
    | ⟨0, _⟩ => exact Subsingleton.elim (α := Fin 1) _ _
    | ⟨1, _⟩ => exact Subsingleton.elim (α := Fin 1) _ _
  exact congrArg _ e

/-- The scalar that the host reads off the output array. -/
theorem loss_tail (c : Dev nD) (seg : Fin 16384 → ℕ)
    (hseg : ∀ n, seg n < 2 ^ 31 ∧ rowId m c n = BitVec.ofNat 32 (seg n)) :
    Pipeline.afterTail₀ cfgs (dats m) 0 (V0 m) [hostOps1] c main_v5 = fun _ => kernelLoss (rowFeat m c) seg := by
  have hw : Pipeline.withArrays spec0 c (V0 m c) (fun w => (dats m 0 c).arrAt w cfg0.N) (Proc.devRef .tc main_v4)
      = fun _ => kernelLoss (rowFeat m c) seg :=
    (Pipeline.withArrays_arr spec0 (by decide) c (V0 m c) _ 6).trans (loss_array m c seg hseg)
  funext i
  unfold Pipeline.afterTail₀
  after_reads_at
  exact congrFun hw _

end Cert.Fragments

end
-- ==== Proof.Agree.lean ====
/- The two programs' results agree: under the precondition the reference's loss is the scalar that the kernel's host lines read off
   the output array. -/
module

public import proofs.«01_k».proof.Proof.Pre
public import proofs.«01_k».proof.Proof.RefValue
public import proofs.«01_k».proof.Proof.KernelValue

@[expose] public section

set_option maxRecDepth 16384

noncomputable section

namespace Cert.Fragments

open Idealize.ShloMosaic Idealize.ShloMosaic.TcCoe
open Cert.KernelIdeal Cert.KernelIdeal.Gen

/-- The reference's result over the kernel's arguments is what the kernel leaves in its result. -/
theorem results_agree (m : (ℓ : Loc nD τ sig) → Buf (Elt Ideal) ℓ) (c : Dev nD)
    (hpre : Cert.Pre_fragments_ok.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    Cert.ReferenceIdeal.Read.val_main_v122 (F := Ideal) (m ((c.tc : Thread nD τ).loc main_arg0)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      = Pipeline.afterTail₀ cfgs (dats m) 0 (V0 m) [hostOps1] c main_v5 := by
  have hseg := fun n => Classical.choose_spec (pre_ids _ _ _ _ _ _ _ _ _ hpre n)
  rw [loss_tail m c _ hseg]
  funext i
  rw [show i = ix0 from funext fun a => a.elim0, loss_at _ _ _ _ _ _ _ hseg,
    refLoss_eq _ _ (pre_groups _ _ _ _ _ _ _ _ _ hpre _ hseg)]
  rfl

end Cert.Fragments
-- ==== Proof.lean ====
/- The proof of the claim: the printed programs run and leave their arguments unchanged, the idealised kernel is the kernel with two
   constants read as the numbers they stand for, and under the precondition it computes what the reference computes. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_fragments_ok
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference runs and leaves its arguments unchanged; it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
        ∧ r.2.sem = fun _ => 0) :=
  (θ_run _ _ _).mono (fun _ h => ⟨fun c => (h c).2, sem_eq_zero_of_no_sems rfl _⟩) (Cert.ReferenceIdeal.Value.run m g)

/-- The two constants are the numbers their names stand for. -/
theorem preserves : Cert.preserves_Kernel_KernelIdeal :=
  ⟨IdealRules.named_const.statement Cert.KernelIdeal.κ "pairs" .f32 0x477F0000#32 _ rfl,
    IdealRules.named_const.statement Cert.KernelIdeal.κ "scale" .f32 0x3AC49BA6#32 _ rfl⟩

/-- The idealised kernel computes what the reference computes. -/
theorem algebraic : Cert.algebraic_KernelIdeal_ReferenceIdeal_pre_fragments_ok := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v5, ?_, ?_⟩
  · exact (θ_run _ _ _).mono (fun _ h c => ⟨Pipeline.FramePost.rest_eq h.1 c Cert.KernelIdeal.main_v5 (by decide), h.2 c⟩)
      (θ_run_and (Cert.KernelIdeal.Gen.run_main m g) (Cert.KernelIdeal.Gen.unchanged m g))
  · refine (θ_run _ _ _).mono (fun _ h c => ⟨(h c).1.trans ?_, (h c).2⟩) (Cert.ReferenceIdeal.Value.run m' g')
    refine (Cert.ReferenceIdeal.Read.val_main_v122_eq _).trans ?_
    refine Eq.trans ?_ (Cert.Fragments.results_agree m c (hpre c))
    obtain ⟨h0, -, -, -, h4, h5, h6, h7, h8⟩ := hagree c
    rw [← h0, ← h4, ← h5, ← h6, ← h7, ← h8]

theorem claim : Cert.Claim := ⟨Cert.Kernel.Gen.facts, Cert.KernelIdeal.Gen.facts, Cert.ReferenceIdeal.Gen.facts, Cert.Pre_fragments_ok.Gen.facts,
  fun m g _ => Cert.Kernel.Gen.frame m g, fun m g _ => Cert.KernelIdeal.Gen.frame m g, fun m g _ => Cert.KernelIdeal.Gen.frame m g,
  fun m g _ => reference_frame m g, fun m g _ => reference_frame m g, preserves, algebraic⟩

end Cert.Proof

end
